-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v258) = v1 c
          ∧ r.2.mem ((c.tc : Thread Cert.ReferenceIdeal.nD Cert.ReferenceIdeal.τ).loc Cert.ReferenceIdeal.main_v261) = v2 c
          ∧ r.2.mem ((c.tc : Thread Cert.ReferenceIdeal.nD Cert.ReferenceIdeal.τ).loc Cert.ReferenceIdeal.main_v264) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S1024x5 : Shape := ⟨2, ![1024, 5]⟩
abbrev S3x1024 : Shape := ⟨2, ![3, 1024]⟩
abbrev S3 : Shape := ⟨1, ![3]⟩
abbrev S1024x3072 : Shape := ⟨2, ![1024, 3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  slices_S1024x3072_S1024x1024_0_2048 : S1024x3072.Slices ![0, 2048] S1024x1024

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg9 : FVec F S1024x3072 .f32) (main_arg11 : FVec F S1024x1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := (extractStridedSlice S1024x1024 ![0, 2048] · slices_S1024x3072_S1024x1024_0_2048) main_arg9
  let main_v20 : FVec F S1024x1024 .f32 := Host.absf main_v19
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v18 main_v23
  let main_v25 : FVec F S1024x1024 .f32 := Host.absf main_arg11
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : IVec S_ 1 := andi main_v24 main_v28
  let main_v30 : FVec F S1024 .f32 := Host.absf main_arg12
  let main_cst_10 : FVec F S_ .f32 := constant S_ .f32 0x7F800000#32
  let main_v31 : FVec F S1024 .f32 := broadcastInDim S1024 ![] bcast_S_S1024 main_cst_10
  let main_v32 : IVec S1024 1 := cmpf .olt main_v30 main_v31
  let main_c_11 : IVec S_ 1 := constantI S_ 1 1#1
  let main_v33 : IVec S_ 1 := (fun x v => Host.reduce IntOp.andi x v reducesTo_S1024_S_d0 h_S_) main_v32 main_c_11
  fn_part2 (F := F) main_v29 main_v33

def fn {F : FTy → Type} [FloatOps F] (main_arg0 : FVec F S2x2048x1024 .f32) (main_arg1 : FVec F S1024x1024 .f32) (main_arg2 : FVec F S1024 .f32) (main_arg3 : FVec F S1024x5 .f32) (main_arg4 : FVec F S1024 .f32) (main_arg5 : FVec F S1024x1024 .f32) (main_arg6 : FVec F S1024 .f32) (main_arg7 : FVec F S3x1024 .f32) (main_arg8 : FVec F S3 .f32) (main_arg9 : FVec F S1024x3072 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg9 main_arg11 main_arg12 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x5 : Shape := ⟨2, ![1024, 5]⟩
abbrev S3x1024 : Shape := ⟨2, ![3, 1024]⟩
abbrev S3 : Shape := ⟨1, ![3]⟩
abbrev S1024x3072 : Shape := ⟨2, ![1024, 3072]⟩
abbrev S5x1024 : Shape := ⟨2, ![5, 1024]⟩
abbrev S1x1024 : Shape := ⟨2, ![1, 1024]⟩
abbrev S1024x1152 : Shape := ⟨2, ![1024, 1152]⟩
abbrev S1024x3 : Shape := ⟨2, ![1024, 3]⟩
abbrev S1024x125 : Shape := ⟨2, ![1024, 125]⟩
abbrev S1x3 : Shape := ⟨2, ![1, 3]⟩
abbrev S2x2x1x1 : Shape := ⟨4, ![2, 2, 1, 1]⟩
abbrev S1x1024x1024 : Shape := ⟨3, ![1, 1024, 1024]⟩
abbrev S1x1x1x1 : Shape := ⟨4, ![1, 1, 1, 1]⟩
abbrev S3x8x1024 : Shape := ⟨3, ![3, 8, 1024]⟩
abbrev S8x1024 : Shape := ⟨2, ![8, 1024]⟩
abbrev S1x8x1024 : Shape := ⟨3, ![1, 8, 1024]⟩
abbrev S4x1024 : Shape := ⟨2, ![4, 1024]⟩
abbrev S1028x1024 : Shape := ⟨2, ![1028, 1024]⟩
abbrev S32x32x1024 : Shape := ⟨3, ![32, 32, 1024]⟩
abbrev S32x1024 : Shape := ⟨2, ![32, 1024]⟩
abbrev S32x1x1024 : Shape := ⟨3, ![32, 1, 1024]⟩
abbrev S1024x1 : Shape := ⟨2, ![1024, 1]⟩
abbrev S1x1 : Shape := ⟨2, ![1, 1]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 48
  | .vmem => 39
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x5, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S3x1024, .f32⟩
  | .hbm, ⟨8, _⟩ => ⟨S3, .f32⟩
  | .hbm, ⟨9, _⟩ => ⟨S1024x3072, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S5x1024, .f32⟩
  | .hbm, ⟨16, _⟩ => ⟨S5x1024, .bf16⟩
  | .hbm, ⟨17, _⟩ => ⟨S1x1024, .f32⟩
  | .hbm, ⟨18, _⟩ => ⟨S1x1024, .bf16⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S1024x1024, .bf16⟩
  | .hbm, ⟨23, _⟩ => ⟨S1024x1152, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x3, .f32⟩
  | .hbm, ⟨30, _⟩ => ⟨S1x1024, .f32⟩
  | .hbm, ⟨31, _⟩ => ⟨S1x1024, .f32⟩
  | .hbm, ⟨32, _⟩ => ⟨S2x2048x1024, .f32⟩
  | .hbm, ⟨33, _⟩ => ⟨S2x2x1x1, .f32⟩
  | .hbm, ⟨34, _⟩ => ⟨S2x2x1x1, .f32⟩
  | .hbm, ⟨35, _⟩ => ⟨S2x2x1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .f32⟩
  | .local _ .vmem, ⟨3, _⟩ => ⟨S3x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1152, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .bf16⟩
  | .local _ .vmem, ⟨18, _⟩ => ⟨S1x1024, .f32⟩
  | .local _ .vmem, ⟨19, _⟩ => ⟨S5x1024, .bf16⟩
  | .local _ .vmem, ⟨20, _⟩ => ⟨S1x1024, .bf16⟩
  | .local _ .vmem, ⟨21, _⟩ => ⟨S1024x1024, .bf16⟩
  | .local _ .vmem, ⟨22, _⟩ => ⟨S1x3, .f32⟩
  | .local _ .vmem, ⟨23, _⟩ => ⟨S1024x1152, .bf16⟩
  | .local _ .vmem, ⟨24, _⟩ => ⟨S1024x1024, .bf16⟩
  | .local _ .vmem, ⟨25, _⟩ => ⟨S1x1024, .f32⟩
  | .local _ .vmem, ⟨26, _⟩ => ⟨S1024x1024, .bf16⟩
  | .local _ .vmem, ⟨27, _⟩ => ⟨S1x1024, .f32⟩
  | .local _ .vmem, ⟨28, _⟩ => ⟨S1024x1024, .bf16⟩
  | .local _ .vmem, ⟨29, _⟩ => ⟨S1x1024, .f32⟩
  | .local _ .vmem, ⟨30, _⟩ => ⟨S1x1024x1024, .f32⟩
  | .local _ .vmem, ⟨31, _⟩ => ⟨S1x1024x1024, .f32⟩
  | .local _ .vmem, ⟨32, _⟩ => ⟨S1x1x1x1, .f32⟩
  | .local _ .vmem, ⟨33, _⟩ => ⟨S1x1x1x1, .f32⟩
  | .local _ .vmem, ⟨34, _⟩ => ⟨S1x1x1x1, .f32⟩
  | .local _ .vmem, ⟨35, _⟩ => ⟨S1x1x1x1, .f32⟩
  | .local _ .vmem, ⟨36, _⟩ => ⟨S1x1x1x1, .f32⟩
  | .local _ .vmem, ⟨37, _⟩ => ⟨S1x1x1x1, .f32⟩
  | .local _ .vmem, ⟨38, _⟩ => ⟨S3x8x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev main_v6_6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v11_3 : Ref sig .tc := ⟨.hbm, 35, rfl⟩
abbrev main_cst : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg14_1 : Ref sig .tc := ⟨.vmem, 31, rfl⟩
abbrev cc1_stg15_0 : Ref sig .tc := ⟨.vmem, 32, rfl⟩
abbrev cc1_stg15_1 : Ref sig .tc := ⟨.vmem, 33, rfl⟩
abbrev cc1_stg16_0 : Ref sig .tc := ⟨.vmem, 34, rfl⟩
abbrev cc1_stg16_1 : Ref sig .tc := ⟨.vmem, 35, rfl⟩
abbrev cc1_stg17_0 : Ref sig .tc := ⟨.vmem, 36, rfl⟩
abbrev cc1_stg17_1 : Ref sig .tc := ⟨.vmem, 37, rfl⟩
abbrev cc1_scratch0 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem14_1 : DmaSem sig := 31
abbrev cc1_sem15_0 : DmaSem sig := 32
abbrev cc1_sem15_1 : DmaSem sig := 33
abbrev cc1_sem16_0 : DmaSem sig := 34
abbrev cc1_sem16_1 : DmaSem sig := 35
abbrev cc1_sem17_0 : DmaSem sig := 36
abbrev cc1_sem17_1 : DmaSem sig := 37

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1152 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_16 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_17 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S5x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1152 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x1024x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x1x1x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x1x1x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x1x1x1 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1024x5 : Shape := ⟨2, ![1024, 5]⟩
abbrev S3x1024 : Shape := ⟨2, ![3, 1024]⟩
abbrev S3 : Shape := ⟨1, ![3]⟩
abbrev S1024x3072 : Shape := ⟨2, ![1024, 3072]⟩
abbrev S1x1x1024 : Shape := ⟨3, ![1, 1, 1024]⟩
abbrev S1024x3 : Shape := ⟨2, ![1024, 3]⟩
abbrev S2x2048x3 : Shape := ⟨3, ![2, 2048, 3]⟩
abbrev S1x1x3 : Shape := ⟨3, ![1, 1, 3]⟩
abbrev S_ : Shape := ⟨0, ![]⟩
abbrev S2x2052x1024 : Shape := ⟨3, ![2, 2052, 1024]⟩
abbrev S1024x1 : Shape := ⟨2, ![1024, 1]⟩
abbrev S2x64x32x1024 : Shape := ⟨4, ![2, 64, 32, 1024]⟩
abbrev S2x64x1024 : Shape := ⟨3, ![2, 64, 1024]⟩
abbrev S2x2048x3072 : Shape := ⟨3, ![2, 2048, 3072]⟩
abbrev S3072x1024 : Shape := ⟨2, ![3072, 1024]⟩
abbrev S2x2048x1 : Shape := ⟨3, ![2, 2048, 1]⟩

abbrev nBuf : Space → Nat
  | .hbm => 309
  | .vmem => 0
  | .smem => 0
  | _ => 0

abbrev hbmTy0_0 (i : Nat) : BufTy := match i % 128 with
  | 0 => ⟨S2x2048x1024, .f32⟩
  | 1 => ⟨S1024x1024, .f32⟩
  | 2 => ⟨S1024, .f32⟩
  | 3 => ⟨S1024x5, .f32⟩
  | 4 => ⟨S1024, .f32⟩
  | 5 => ⟨S1024x1024, .f32⟩
  | 6 => ⟨S1024, .f32⟩
  | 7 => ⟨S3x1024, .f32⟩
  | 8 => ⟨S3, .f32⟩
  | 9 => ⟨S1024x3072, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S2x2048x1024, .f32⟩
  | 17 => ⟨S1x1x1024, .f32⟩
  | 18 => ⟨S2x2048x1024, .f32⟩
  | 19 => ⟨S2x2048x1024, .f32⟩
  | 20 => ⟨S1024x3, .f32⟩
  | 21 => ⟨S2x2048x3, .f32⟩
  | 22 => ⟨S1x1x3, .f32⟩
  | 23 => ⟨S2x2048x3, .f32⟩
  | 24 => ⟨S2x2048x3, .f32⟩
  | 25 => ⟨S2x2048x3, .f32⟩
  | 26 => ⟨S2x2048x3, .f32⟩
  | 27 => ⟨S_, .f32⟩
  | 28 => ⟨S2x2048x3, .f32⟩
  | 29 => ⟨S2x2048x3, .f32⟩
  | 30 => ⟨S_, .f32⟩
  | 31 => ⟨S2x2048x3, .f32⟩
  | 32 => ⟨S2x2048x3, .f32⟩
  | 33 => ⟨S_, .i32⟩
  | 34 => ⟨S_, .f32⟩
  | 35 => ⟨S2x2052x1024, .f32⟩
  | 36 => ⟨S_, .f32⟩
  | 37 => ⟨S2x2048x1024, .f32⟩
  | 38 => ⟨S2x2048x1024, .f32⟩
  | 39 => ⟨S1024x1, .f32⟩
  | 40 => ⟨S1024, .f32⟩
  | 41 => ⟨S1x1x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S1024x1, .f32⟩
  | 47 => ⟨S1024, .f32⟩
  | 48 => ⟨S1x1x1024, .f32⟩
  | 49 => ⟨S2x2048x1024, .f32⟩
  | 50 => ⟨S2x2048x1024, .f32⟩
  | 51 => ⟨S2x2048x1024, .f32⟩
  | 52 => ⟨S2x2048x1024, .f32⟩
  | 53 => ⟨S1024x1, .f32⟩
  | 54 => ⟨S1024, .f32⟩
  | 55 => ⟨S1x1x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S1024x1, .f32⟩
  | 61 => ⟨S1024, .f32⟩
  | 62 => ⟨S1x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S1024x1, .f32⟩
  | 68 => ⟨S1024, .f32⟩
  | 69 => ⟨S1x1x1024, .f32⟩
  | 70 => ⟨S2x2048x1024, .f32⟩
  | 71 => ⟨S2x2048x1024, .f32⟩
  | 72 => ⟨S2x2048x1024, .f32⟩
  | 73 => ⟨S1x1x1024, .f32⟩
  | 74 => ⟨S2x2048x1024, .f32⟩
  | 75 => ⟨S2x2048x1024, .f32⟩
  | 76 => ⟨S2x64x32x1024, .f32⟩
  | 77 => ⟨S_, .f32⟩
  | 78 => ⟨S2x64x1024, .f32⟩
  | 79 => ⟨S_, .f32⟩
  | 80 => ⟨S2x64x1024, .f32⟩
  | 81 => ⟨S2x64x1024, .f32⟩
  | 82 => ⟨S1024x1024, .f32⟩
  | 83 => ⟨S2x64x1024, .f32⟩
  | 84 => ⟨S1x1x1024, .f32⟩
  | 85 => ⟨S2x64x1024, .f32⟩
  | 86 => ⟨S2x64x1024, .f32⟩
  | 87 => ⟨S2x64x32x1024, .f32⟩
  | 88 => ⟨S2x2048x1024, .f32⟩
  | 89 => ⟨S2x2048x3072, .f32⟩
  | 90 => ⟨S3072x1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x1024, .f32⟩
  | 96 => ⟨S1024x1024, .f32⟩
  | 97 => ⟨S2x2048x1024, .f32⟩
  | 98 => ⟨S1x1x1024, .f32⟩
  | 99 => ⟨S2x2048x1024, .f32⟩
  | 100 => ⟨S2x2048x1024, .f32⟩
  | 101 => ⟨S1024x3, .f32⟩
  | 102 => ⟨S2x2048x3, .f32⟩
  | 103 => ⟨S1x1x3, .f32⟩
  | 104 => ⟨S2x2048x3, .f32⟩
  | 105 => ⟨S2x2048x3, .f32⟩
  | 106 => ⟨S2x2048x3, .f32⟩
  | 107 => ⟨S2x2048x3, .f32⟩
  | 108 => ⟨S_, .f32⟩
  | 109 => ⟨S2x2048x3, .f32⟩
  | 110 => ⟨S2x2048x3, .f32⟩
  | 111 => ⟨S_, .f32⟩
  | 112 => ⟨S2x2048x3, .f32⟩
  | 113 => ⟨S2x2048x3, .f32⟩
  | 114 => ⟨S2x2048x1, .f32⟩
  | 115 => ⟨S2x2048x1024, .f32⟩
  | 116 => ⟨S2x2048x1024, .f32⟩
  | 117 => ⟨S2x2048x1024, .f32⟩
  | 118 => ⟨S_, .i32⟩
  | 119 => ⟨S_, .f32⟩
  | 120 => ⟨S2x2052x1024, .f32⟩
  | 121 => ⟨S_, .f32⟩
  | 122 => ⟨S2x2048x1024, .f32⟩
  | 123 => ⟨S2x2048x1024, .f32⟩
  | 124 => ⟨S1024x1, .f32⟩
  | 125 => ⟨S1024, .f32⟩
  | 126 => ⟨S1x1x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S1024x1, .f32⟩
  | 4 => ⟨S1024, .f32⟩
  | 5 => ⟨S1x1x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S1024x1, .f32⟩
  | 11 => ⟨S1024, .f32⟩
  | 12 => ⟨S1x1x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S1024x1, .f32⟩
  | 18 => ⟨S1024, .f32⟩
  | 19 => ⟨S1x1x1024, .f32⟩
  | 20 => ⟨S2x2048x1024, .f32⟩
  | 21 => ⟨S2x2048x1024, .f32⟩
  | 22 => ⟨S2x2048x1024, .f32⟩
  | 23 => ⟨S2x2048x1024, .f32⟩
  | 24 => ⟨S1024x1, .f32⟩
  | 25 => ⟨S1024, .f32⟩
  | 26 => ⟨S1x1x1024, .f32⟩
  | 27 => ⟨S2x2048x1024, .f32⟩
  | 28 => ⟨S2x2048x1024, .f32⟩
  | 29 => ⟨S2x2048x1024, .f32⟩
  | 30 => ⟨S1x1x1024, .f32⟩
  | 31 => ⟨S2x2048x1024, .f32⟩
  | 32 => ⟨S2x2048x1024, .f32⟩
  | 33 => ⟨S2x64x32x1024, .f32⟩
  | 34 => ⟨S_, .f32⟩
  | 35 => ⟨S2x64x1024, .f32⟩
  | 36 => ⟨S_, .f32⟩
  | 37 => ⟨S2x64x1024, .f32⟩
  | 38 => ⟨S2x64x1024, .f32⟩
  | 39 => ⟨S1024x1024, .f32⟩
  | 40 => ⟨S2x64x1024, .f32⟩
  | 41 => ⟨S1x1x1024, .f32⟩
  | 42 => ⟨S2x64x1024, .f32⟩
  | 43 => ⟨S2x64x1024, .f32⟩
  | 44 => ⟨S2x64x32x1024, .f32⟩
  | 45 => ⟨S2x2048x1024, .f32⟩
  | 46 => ⟨S2x2048x3072, .f32⟩
  | 47 => ⟨S3072x1024, .f32⟩
  | 48 => ⟨S2x2048x1024, .f32⟩
  | 49 => ⟨S1x1x1024, .f32⟩
  | 50 => ⟨S2x2048x1024, .f32⟩
  | 51 => ⟨S2x2048x1024, .f32⟩
  | 52 => ⟨S2x2048x1024, .f32⟩
  | 53 => ⟨S1024x1024, .f32⟩
  | 54 => ⟨S2x2048x1024, .f32⟩
  | 55 => ⟨S1x1x1024, .f32⟩
  | 56 => ⟨S2x2048x1024, .f32⟩
  | 57 => ⟨S2x2048x1024, .f32⟩
  | 58 => ⟨S1024x3, .f32⟩
  | 59 => ⟨S2x2048x3, .f32⟩
  | 60 => ⟨S1x1x3, .f32⟩
  | 61 => ⟨S2x2048x3, .f32⟩
  | 62 => ⟨S2x2048x3, .f32⟩
  | 63 => ⟨S2x2048x3, .f32⟩
  | 64 => ⟨S2x2048x3, .f32⟩
  | 65 => ⟨S_, .f32⟩
  | 66 => ⟨S2x2048x3, .f32⟩
  | 67 => ⟨S2x2048x3, .f32⟩
  | 68 => ⟨S_, .f32⟩
  | 69 => ⟨S2x2048x3, .f32⟩
  | 70 => ⟨S2x2048x3, .f32⟩
  | 71 => ⟨S2x2048x1, .f32⟩
  | 72 => ⟨S2x2048x1024, .f32⟩
  | 73 => ⟨S2x2048x1024, .f32⟩
  | 74 => ⟨S2x2048x1024, .f32⟩
  | 75 => ⟨S_, .i32⟩
  | 76 => ⟨S_, .f32⟩
  | 77 => ⟨S2x2052x1024, .f32⟩
  | 78 => ⟨S_, .f32⟩
  | 79 => ⟨S2x2048x1024, .f32⟩
  | 80 => ⟨S2x2048x1024, .f32⟩
  | 81 => ⟨S1024x1, .f32⟩
  | 82 => ⟨S1024, .f32⟩
  | 83 => ⟨S1x1x1024, .f32⟩
  | 84 => ⟨S2x2048x1024, .f32⟩
  | 85 => ⟨S2x2048x1024, .f32⟩
  | 86 => ⟨S2x2048x1024, .f32⟩
  | 87 => ⟨S2x2048x1024, .f32⟩
  | 88 => ⟨S1024x1, .f32⟩
  | 89 => ⟨S1024, .f32⟩
  | 90 => ⟨S1x1x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S1024x1, .f32⟩
  | 96 => ⟨S1024, .f32⟩
  | 97 => ⟨S1x1x1024, .f32⟩
  | 98 => ⟨S2x2048x1024, .f32⟩
  | 99 => ⟨S2x2048x1024, .f32⟩
  | 100 => ⟨S2x2048x1024, .f32⟩
  | 101 => ⟨S2x2048x1024, .f32⟩
  | 102 => ⟨S1024x1, .f32⟩
  | 103 => ⟨S1024, .f32⟩
  | 104 => ⟨S1x1x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S1024x1, .f32⟩
  | 110 => ⟨S1024, .f32⟩
  | 111 => ⟨S1x1x1024, .f32⟩
  | 112 => ⟨S2x2048x1024, .f32⟩
  | 113 => ⟨S2x2048x1024, .f32⟩
  | 114 => ⟨S2x2048x1024, .f32⟩
  | 115 => ⟨S1x1x1024, .f32⟩
  | 116 => ⟨S2x2048x1024, .f32⟩
  | 117 => ⟨S2x2048x1024, .f32⟩
  | 118 => ⟨S2x64x32x1024, .f32⟩
  | 119 => ⟨S_, .f32⟩
  | 120 => ⟨S2x64x1024, .f32⟩
  | 121 => ⟨S_, .f32⟩
  | 122 => ⟨S2x64x1024, .f32⟩
  | 123 => ⟨S2x64x1024, .f32⟩
  | 124 => ⟨S1024x1024, .f32⟩
  | 125 => ⟨S2x64x1024, .f32⟩
  | 126 => ⟨S1x1x1024, .f32⟩
  | 127 => ⟨S2x64x1024, .f32⟩
  | _ => ⟨S2x2048x1024, .f32⟩

abbrev hbmTy0_2 (i : Nat) : BufTy := match i % 128 with
  | 0 => ⟨S2x64x1024, .f32⟩
  | 1 => ⟨S2x64x32x1024, .f32⟩
  | 2 => ⟨S2x2048x1024, .f32⟩
  | 3 => ⟨S2x2048x3072, .f32⟩
  | 4 => ⟨S3072x1024, .f32⟩
  | 5 => ⟨S2x2048x1024, .f32⟩
  | 6 => ⟨S1x1x1024, .f32⟩
  | 7 => ⟨S2x2048x1024, .f32⟩
  | 8 => ⟨S2x2048x1024, .f32⟩
  | 9 => ⟨S2x2048x1024, .f32⟩
  | 10 => ⟨S1024x1024, .f32⟩
  | 11 => ⟨S2x2048x1024, .f32⟩
  | 12 => ⟨S1x1x1024, .f32⟩
  | 13 => ⟨S2x2048x1024, .f32⟩
  | 14 => ⟨S2x2048x1024, .f32⟩
  | 15 => ⟨S1024x3, .f32⟩
  | 16 => ⟨S2x2048x3, .f32⟩
  | 17 => ⟨S1x1x3, .f32⟩
  | 18 => ⟨S2x2048x3, .f32⟩
  | 19 => ⟨S2x2048x3, .f32⟩
  | 20 => ⟨S2x2048x3, .f32⟩
  | 21 => ⟨S2x2048x3, .f32⟩
  | 22 => ⟨S_, .f32⟩
  | 23 => ⟨S2x2048x3, .f32⟩
  | 24 => ⟨S2x2048x3, .f32⟩
  | 25 => ⟨S_, .f32⟩
  | 26 => ⟨S2x2048x3, .f32⟩
  | 27 => ⟨S2x2048x3, .f32⟩
  | 28 => ⟨S2x2048x1, .f32⟩
  | 29 => ⟨S2x2048x1024, .f32⟩
  | 30 => ⟨S2x2048x1024, .f32⟩
  | 31 => ⟨S2x2048x1024, .f32⟩
  | 32 => ⟨S1024x1024, .f32⟩
  | 33 => ⟨S2x2048x1024, .f32⟩
  | 34 => ⟨S2x2048x1024, .f32⟩
  | 35 => ⟨S1x1x1024, .f32⟩
  | 36 => ⟨S2x2048x1024, .f32⟩
  | 37 => ⟨S2x2048x1024, .f32⟩
  | 38 => ⟨S2x2048x1, .f32⟩
  | 39 => ⟨S_, .f32⟩
  | 40 => ⟨S_, .f32⟩
  | 41 => ⟨S_, .f32⟩
  | 42 => ⟨S_, .f32⟩
  | 43 => ⟨S2x2048x1, .f32⟩
  | 44 => ⟨S_, .f32⟩
  | 45 => ⟨S_, .f32⟩
  | 46 => ⟨S_, .f32⟩
  | 47 => ⟨S_, .f32⟩
  | 48 => ⟨S2x2048x1, .f32⟩
  | 49 => ⟨S_, .f32⟩
  | 50 => ⟨S_, .f32⟩
  | 51 => ⟨S_, .f32⟩
  | 52 => ⟨S_, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_2 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_4 : Ref sig .tc := ⟨.hbm, 108, rfl⟩
abbrev main_v86 : Ref sig .tc := ⟨.hbm, 109, rfl⟩
abbrev main_v87 : Ref sig .tc := ⟨.hbm, 110, rfl⟩
abbrev main_cst_5 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_6 : Ref sig .tc := ⟨.hbm, 118, rfl⟩
abbrev main_call1_v0 : Ref sig .tc := ⟨.hbm, 119, rfl⟩
abbrev main_v94 : Ref sig .tc := ⟨.hbm, 120, rfl⟩
abbrev main_cst_7 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_8 : Ref sig .tc := ⟨.hbm, 162, rfl⟩
abbrev main_v135 : Ref sig .tc := ⟨.hbm, 163, rfl⟩
abbrev main_cst_9 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_cst_10 : Ref sig .tc := ⟨.hbm, 193, rfl⟩
abbrev main_v164 : Ref sig .tc := ⟨.hbm, 194, rfl⟩
abbrev main_v165 : Ref sig .tc := ⟨.hbm, 195, rfl⟩
abbrev main_cst_11 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_c_12 : Ref sig .tc := ⟨.hbm, 203, rfl⟩
abbrev main_call2_v0 : Ref sig .tc := ⟨.hbm, 204, rfl⟩
abbrev main_v172 : Ref sig .tc := ⟨.hbm, 205, rfl⟩
abbrev main_cst_13 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_cst_14 : Ref sig .tc := ⟨.hbm, 247, rfl⟩
abbrev main_v213 : Ref sig .tc := ⟨.hbm, 248, rfl⟩
abbrev main_cst_15 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_cst_16 : Ref sig .tc := ⟨.hbm, 278, rfl⟩
abbrev main_v242 : Ref sig .tc := ⟨.hbm, 279, rfl⟩
abbrev main_v243 : Ref sig .tc := ⟨.hbm, 280, rfl⟩
abbrev main_cst_17 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_cst_18 : Ref sig .tc := ⟨.hbm, 295, rfl⟩
abbrev main_v257 : Ref sig .tc := ⟨.hbm, 296, rfl⟩
abbrev main_cst_19 : Ref sig .tc := ⟨.hbm, 297, rfl⟩
abbrev main_v258 : Ref sig .tc := ⟨.hbm, 298, rfl⟩
abbrev main_v259 : Ref sig .tc := ⟨.hbm, 299, rfl⟩
abbrev main_cst_20 : Ref sig .tc := ⟨.hbm, 300, rfl⟩
abbrev main_v260 : Ref sig .tc := ⟨.hbm, 301, rfl⟩
abbrev main_cst_21 : Ref sig .tc := ⟨.hbm, 302, rfl⟩
abbrev main_v261 : Ref sig .tc := ⟨.hbm, 303, rfl⟩
abbrev main_v262 : Ref sig .tc := ⟨.hbm, 304, rfl⟩
abbrev main_cst_22 : Ref sig .tc := ⟨.hbm, 305, rfl⟩
abbrev main_v263 : Ref sig .tc := ⟨.hbm, 306, rfl⟩
abbrev main_cst_23 : Ref sig .tc := ⟨.hbm, 307, rfl⟩
abbrev main_v264 : Ref sig .tc := ⟨.hbm, 308, rfl⟩

abbrev nD : Nat := 1
abbrev τ : Topo := Topo.v7x

variable {F : FTy → Type} [FloatOps F]
-- ==== Proof.ReferenceIdeal.Run.lean ====
module

public import proofs.«01_k».proof.Proof.Gen.ReferenceIdeal.Run

/-! The reference's run, with its counters. -/

@[expose] public section

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- The reference declares no counter at all. -/
theorem no_counter (g : GSem nD τ sig) : False := by
  obtain ⟨⟨d, i⟩, s⟩ := g
  revert s
  cases i <;> intro s <;> exact nomatch s

/-- The reference runs to its end with every argument array as launched. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h c).2.2.2.2, funext fun g => (no_counter g).elim⟩) (Cert.ReferenceIdeal.Value.run m ρ)

end Cert.ReferenceIdeal.Hand
-- ==== Proof.KernelIdeal.Prep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first kernel call, which transposes and folds the weights: what its body leaves in each output buffer, and the
obligation the pipeline library asks for. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The part of window `w`'s array staged at a point, read off the contents `V` the region is entered with. -/
def prepBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block whenever the body is called: any proof data with the entry array and an untouched block. -/
theorem prep_bef_of_0 {c : Dev nD} (dat : Dat τ (Elt F) Unit ℕ (UR sig nD τ) ℕ cfg0 c) (hA : dat.A 0 = V c (Pipeline.arrRef spec0 0))
    (hafter : ∀ t, dat.after 0 t = prepBlk V c 0 t) (t : Fin cfg0.N) (d) : dat.before 0 t d = prepBlk V c 0 t :=
  (dat.before_in_eq_fetched 0 rfl (fun _ => rfl) (fun _ _ _ => rfl) (fun t => by rw [hafter]; unfold Dat.blockOf prepBlk; rw [hA]; try rfl) t d).trans
    (by unfold Dat.fetched Dat.blockOf prepBlk; rw [hA]; try rfl)
/-- Input window 1 holds its block whenever the body is called: any proof data with the entry array and an untouched block. -/
theorem prep_bef_of_1 {c : Dev nD} (dat : Dat τ (Elt F) Unit ℕ (UR sig nD τ) ℕ cfg0 c) (hA : dat.A 1 = V c (Pipeline.arrRef spec0 1))
    (hafter : ∀ t, dat.after 1 t = prepBlk V c 1 t) (t : Fin cfg0.N) (d) : dat.before 1 t d = prepBlk V c 1 t :=
  (dat.before_in_eq_fetched 1 rfl (fun _ => rfl) (fun _ _ _ => rfl) (fun t => by rw [hafter]; unfold Dat.blockOf prepBlk; rw [hA]; try rfl) t d).trans
    (by unfold Dat.fetched Dat.blockOf prepBlk; rw [hA]; try rfl)
/-- Input window 2 holds its block whenever the body is called: any proof data with the entry array and an untouched block. -/
theorem prep_bef_of_2 {c : Dev nD} (dat : Dat τ (Elt F) Unit ℕ (UR sig nD τ) ℕ cfg0 c) (hA : dat.A 2 = V c (Pipeline.arrRef spec0 2))
    (hafter : ∀ t, dat.after 2 t = prepBlk V c 2 t) (t : Fin cfg0.N) (d) : dat.before 2 t d = prepBlk V c 2 t :=
  (dat.before_in_eq_fetched 2 rfl (fun _ => rfl) (fun _ _ _ => rfl) (fun t => by rw [hafter]; unfold Dat.blockOf prepBlk; rw [hA]; try rfl) t d).trans
    (by unfold Dat.fetched Dat.blockOf prepBlk; rw [hA]; try rfl)
/-- Input window 3 holds its block whenever the body is called: any proof data with the entry array and an untouched block. -/
theorem prep_bef_of_3 {c : Dev nD} (dat : Dat τ (Elt F) Unit ℕ (UR sig nD τ) ℕ cfg0 c) (hA : dat.A 3 = V c (Pipeline.arrRef spec0 3))
    (hafter : ∀ t, dat.after 3 t = prepBlk V c 3 t) (t : Fin cfg0.N) (d) : dat.before 3 t d = prepBlk V c 3 t :=
  (dat.before_in_eq_fetched 3 rfl (fun _ => rfl) (fun _ _ _ => rfl) (fun t => by rw [hafter]; unfold Dat.blockOf prepBlk; rw [hA]; try rfl) t d).trans
    (by unfold Dat.fetched Dat.blockOf prepBlk; rw [hA]; try rfl)
/-- Input window 4 holds its block whenever the body is called: any proof data with the entry array and an untouched block. -/
theorem prep_bef_of_4 {c : Dev nD} (dat : Dat τ (Elt F) Unit ℕ (UR sig nD τ) ℕ cfg0 c) (hA : dat.A 4 = V c (Pipeline.arrRef spec0 4))
    (hafter : ∀ t, dat.after 4 t = prepBlk V c 4 t) (t : Fin cfg0.N) (d) : dat.before 4 t d = prepBlk V c 4 t :=
  (dat.before_in_eq_fetched 4 rfl (fun _ => rfl) (fun _ _ _ => rfl) (fun t => by rw [hafter]; unfold Dat.blockOf prepBlk; rw [hA]; try rfl) t d).trans
    (by unfold Dat.fetched Dat.blockOf prepBlk; rw [hA]; try rfl)
/-- Input window 5 holds its block whenever the body is called: any proof data with the entry array and an untouched block. -/
theorem prep_bef_of_5 {c : Dev nD} (dat : Dat τ (Elt F) Unit ℕ (UR sig nD τ) ℕ cfg0 c) (hA : dat.A 5 = V c (Pipeline.arrRef spec0 5))
    (hafter : ∀ t, dat.after 5 t = prepBlk V c 5 t) (t : Fin cfg0.N) (d) : dat.before 5 t d = prepBlk V c 5 t :=
  (dat.before_in_eq_fetched 5 rfl (fun _ => rfl) (fun _ _ _ => rfl) (fun t => by rw [hafter]; unfold Dat.blockOf prepBlk; rw [hA]; try rfl) t d).trans
    (by unfold Dat.fetched Dat.blockOf prepBlk; rw [hA]; try rfl)
/-- Input window 6 holds its block whenever the body is called: any proof data with the entry array and an untouched block. -/
theorem prep_bef_of_6 {c : Dev nD} (dat : Dat τ (Elt F) Unit ℕ (UR sig nD τ) ℕ cfg0 c) (hA : dat.A 6 = V c (Pipeline.arrRef spec0 6))
    (hafter : ∀ t, dat.after 6 t = prepBlk V c 6 t) (t : Fin cfg0.N) (d) : dat.before 6 t d = prepBlk V c 6 t :=
  (dat.before_in_eq_fetched 6 rfl (fun _ => rfl) (fun _ _ _ => rfl) (fun t => by rw [hafter]; unfold Dat.blockOf prepBlk; rw [hA]; try rfl) t d).trans
    (by unfold Dat.fetched Dat.blockOf prepBlk; rw [hA]; try rfl)
/-- Input window 7 holds its block whenever the body is called: any proof data with the entry array and an untouched block. -/
theorem prep_bef_of_7 {c : Dev nD} (dat : Dat τ (Elt F) Unit ℕ (UR sig nD τ) ℕ cfg0 c) (hA : dat.A 7 = V c (Pipeline.arrRef spec0 7))
    (hafter : ∀ t, dat.after 7 t = prepBlk V c 7 t) (t : Fin cfg0.N) (d) : dat.before 7 t d = prepBlk V c 7 t :=
  (dat.before_in_eq_fetched 7 rfl (fun _ => rfl) (fun _ _ _ => rfl) (fun t => by rw [hafter]; unfold Dat.blockOf prepBlk; rw [hA]; try rfl) t d).trans
    (by unfold Dat.fetched Dat.blockOf prepBlk; rw [hA]; try rfl)

/-- Rectangle 0 the weight-preparing body loads or stores. -/
abbrev prepR0 : Rect S1024x3072 := Rect.unit (s := S1024x3072) ![0, 2048] S1024x1024.size inb_S1024x3072_S1024x1024_0_2048
/-- Rectangle 1 the weight-preparing body loads or stores. -/
abbrev prepR1 : Rect S1024x1024 := Rect.unit (s := S1024x1024) ![0, 0] S1024x1024.size inb_S1024x1024_S1024x1024_0_0
/-- Rectangle 2 the weight-preparing body loads or stores. -/
abbrev prepR2 : Rect S1024x3072 := Rect.unit (s := S1024x3072) ![0, 0] S1024x1024.size inb_S1024x3072_S1024x1024_0_0
/-- Rectangle 3 the weight-preparing body loads or stores. -/
abbrev prepR3 : Rect S3x1024 := Rect.unit (s := S3x1024) ![0, 0] S3x1024.size inb_S3x1024_S3x1024_0_0
/-- Rectangle 4 the weight-preparing body loads or stores. -/
abbrev prepR4 : Rect S1024x1152 := Rect.unit (s := S1024x1152) ![0, 0] S1024x1152.size inb_S1024x1152_S1024x1152_0_0
/-- Rectangle 5 the weight-preparing body loads or stores. -/
abbrev prepR5 : Rect S1024x3072 := Rect.unit (s := S1024x3072) ![0, 1024] S1024x1024.size inb_S1024x3072_S1024x1024_0_1024
/-- Rectangle 6 the weight-preparing body loads or stores. -/
abbrev prepR6 : Rect S1x1024 := Rect.unit (s := S1x1024) ![0, 0] S1x1024.size inb_S1x1024_S1x1024_0_0

/-- What the weight-preparing body leaves in output window 8. -/
def prepOut8 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1024 .bf16 :=
  View.canon [⟨prepR1, k0_pay3 (View.ld x0 prepR1)⟩]

/-- The single store of output 8 covers its buffer. -/
theorem prepCover8 (p0 : Vec F S1024x1024 .bf16) (y : S1024x1024.Idx) :
    ∃ pc ∈ ([⟨prepR1, p0⟩] : List (View.Piece (Elt F) S1024x1024 .bf16)), y ∈ pc.1.set :=
  View.cover_of_tiled [⟨prepR1, p0⟩] S1024x1024.size (by rfl) y

/-- What the weight-preparing body leaves in output window 9. -/
def prepOut9 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1024 .bf16 :=
  View.canon [⟨prepR1, k0_pay4 (View.ld x2 prepR0) (View.ld x1 prepR1)⟩]

/-- The single store of output 9 covers its buffer. -/
theorem prepCover9 (p0 : Vec F S1024x1024 .bf16) (y : S1024x1024.Idx) :
    ∃ pc ∈ ([⟨prepR1, p0⟩] : List (View.Piece (Elt F) S1024x1024 .bf16)), y ∈ pc.1.set :=
  View.cover_of_tiled [⟨prepR1, p0⟩] S1024x1024.size (by rfl) y

/-- What the weight-preparing body leaves in output window 10. -/
def prepOut10 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1152 .bf16 :=
  View.canon [⟨prepR4, k0_pay5 (View.ld x2 prepR2) (View.ld x3 prepR3)⟩]

/-- The single store of output 10 covers its buffer. -/
theorem prepCover10 (p0 : Vec F S1024x1152 .bf16) (y : S1024x1152.Idx) :
    ∃ pc ∈ ([⟨prepR4, p0⟩] : List (View.Piece (Elt F) S1024x1152 .bf16)), y ∈ pc.1.set :=
  View.cover_of_tiled [⟨prepR4, p0⟩] S1024x1152.size (by rfl) y

/-- What the weight-preparing body leaves in output window 11. -/
def prepOut11 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1024 .bf16 :=
  View.canon [⟨prepR1, k0_pay6 (View.ld x2 prepR5)⟩]

/-- The single store of output 11 covers its buffer. -/
theorem prepCover11 (p0 : Vec F S1024x1024 .bf16) (y : S1024x1024.Idx) :
    ∃ pc ∈ ([⟨prepR1, p0⟩] : List (View.Piece (Elt F) S1024x1024 .bf16)), y ∈ pc.1.set :=
  View.cover_of_tiled [⟨prepR1, p0⟩] S1024x1024.size (by rfl) y

/-- What the weight-preparing body leaves in output window 12. -/
def prepOut12 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1024 .bf16 :=
  View.canon [⟨prepR1, k0_pay7 (View.ld x4 prepR1)⟩]

/-- The single store of output 12 covers its buffer. -/
theorem prepCover12 (p0 : Vec F S1024x1024 .bf16) (y : S1024x1024.Idx) :
    ∃ pc ∈ ([⟨prepR1, p0⟩] : List (View.Piece (Elt F) S1024x1024 .bf16)), y ∈ pc.1.set :=
  View.cover_of_tiled [⟨prepR1, p0⟩] S1024x1024.size (by rfl) y

/-- What the weight-preparing body leaves in output window 13. -/
def prepOut13 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1024x1024 .bf16 :=
  View.canon [⟨prepR1, k0_pay1 (View.ld x5 prepR1)⟩]

/-- The single store of output 13 covers its buffer. -/
theorem prepCover13 (p0 : Vec F S1024x1024 .bf16) (y : S1024x1024.Idx) :
    ∃ pc ∈ ([⟨prepR1, p0⟩] : List (View.Piece (Elt F) S1024x1024 .bf16)), y ∈ pc.1.set :=
  View.cover_of_tiled [⟨prepR1, p0⟩] S1024x1024.size (by rfl) y

/-- What the weight-preparing body leaves in output window 14. -/
def prepOut14 (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) : Vec F S1x1024 .f32 :=
  View.canon [⟨prepR6, k0_pay2 (View.ld x2 prepR0) (View.ld x7 prepR6) (View.ld x6 prepR6)⟩]

/-- The single store of output 14 covers its buffer. -/
theorem prepCover14 (p0 : Vec F S1x1024 .f32) (y : S1x1024.Idx) :
    ∃ pc ∈ ([⟨prepR6, p0⟩] : List (View.Piece (Elt F) S1x1024 .f32)), y ∈ pc.1.set :=
  View.cover_of_tiled [⟨prepR6, p0⟩] S1x1024.size (by rfl) y

set_option maxHeartbeats 1000000 in
/-- The weight-preparing body on whole staging buffers: inputs are kept, each output ends at its function of the inputs. -/
theorem prep_triple (c : Dev nD) (E : Set ℕ) (arg0 : Memref sig .tc .vmem S1024x1024 .f32) (harg0 : arg0.IsWhole) (arg1 : Memref sig .tc .vmem S1024x1024 .f32) (harg1 : arg1.IsWhole) (arg2 : Memref sig .tc .vmem S1024x3072 .f32) (harg2 : arg2.IsWhole) (arg3 : Memref sig .tc .vmem S3x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1152 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole)
    (x0 : Vec F S1024x1024 .f32) (x1 : Vec F S1024x1024 .f32) (x2 : Vec F S1024x3072 .f32) (x3 : Vec F S3x1024 .f32) (x4 : Vec F S1024x1024 .f32) (x5 : Vec F S1024x1024 .f32) (x6 : Vec F S1x1024 .f32) (x7 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (prepOut8 x0 x1 x2 x3 x4 x5 x6 x7) ∗ owns (c : Thread nD τ) arg9 fullShare (prepOut9 x0 x1 x2 x3 x4 x5 x6 x7) ∗ owns (c : Thread nD τ) arg10 fullShare (prepOut10 x0 x1 x2 x3 x4 x5 x6 x7) ∗ owns (c : Thread nD τ) arg11 fullShare (prepOut11 x0 x1 x2 x3 x4 x5 x6 x7) ∗ owns (c : Thread nD τ) arg12 fullShare (prepOut12 x0 x1 x2 x3 x4 x5 x6 x7) ∗ owns (c : Thread nD τ) arg13 fullShare (prepOut13 x0 x1 x2 x3 x4 x5 x6 x7) ∗ owns (c : Thread nD τ) arg14 fullShare (prepOut14 x0 x1 x2 x3 x4 x5 x6 x7)) -∗ K ⟨⟩))
      ⊢ wp frame (wpE (defs₀ (F := F)) Variants.none c none) E (cc0__prep arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__prep_eq_skeleton]; unfold cc0__prep_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (prepCover8 _)
  isplitl [H9]
  · iexists _; isplitr
    swap; · iexact H9
    ipureintro
    exact View.read_writes_eq_canon _ _ _ (prepCover9 _)
  isplitl [H10]
  · iexists _; isplitr
    swap; · iexact H10
    ipureintro
    exact View.read_writes_eq_canon _ _ _ (prepCover10 _)
  isplitl [H11]
  · iexists _; isplitr
    swap; · iexact H11
    ipureintro
    exact View.read_writes_eq_canon _ _ _ (prepCover11 _)
  isplitl [H12]
  · iexists _; isplitr
    swap; · iexact H12
    ipureintro
    exact View.read_writes_eq_canon _ _ _ (prepCover12 _)
  isplitl [H13]
  · iexists _; isplitr
    swap; · iexact H13
    ipureintro
    exact View.read_writes_eq_canon _ _ _ (prepCover13 _)
  iexists _; isplitr
  swap; · iexact H14
  ipureintro
  exact View.read_writes_eq_canon _ _ _ (prepCover14 _)

/-- Proof data of the weight-preparing region: inputs keep their blocks, outputs end at the functions above, nothing is owed. -/
def prepDat (c : Dev nD) : Dat τ (Elt F) Unit ℕ (UR sig nD τ) ℕ cfg0 c where
  A w := V c (Pipeline.arrRef spec0 w)
  after w t := match w with
    | ⟨0, _⟩ => prepBlk V c 0 t
    | ⟨1, _⟩ => prepBlk V c 1 t
    | ⟨2, _⟩ => prepBlk V c 2 t
    | ⟨3, _⟩ => prepBlk V c 3 t
    | ⟨4, _⟩ => prepBlk V c 4 t
    | ⟨5, _⟩ => prepBlk V c 5 t
    | ⟨6, _⟩ => prepBlk V c 6 t
    | ⟨7, _⟩ => prepBlk V c 7 t
    | ⟨8, _⟩ => prepOut8 (prepBlk V c 0 t) (prepBlk V c 1 t) (prepBlk V c 2 t) (prepBlk V c 3 t) (prepBlk V c 4 t) (prepBlk V c 5 t) (prepBlk V c 6 t) (prepBlk V c 7 t)
    | ⟨9, _⟩ => prepOut9 (prepBlk V c 0 t) (prepBlk V c 1 t) (prepBlk V c 2 t) (prepBlk V c 3 t) (prepBlk V c 4 t) (prepBlk V c 5 t) (prepBlk V c 6 t) (prepBlk V c 7 t)
    | ⟨10, _⟩ => prepOut10 (prepBlk V c 0 t) (prepBlk V c 1 t) (prepBlk V c 2 t) (prepBlk V c 3 t) (prepBlk V c 4 t) (prepBlk V c 5 t) (prepBlk V c 6 t) (prepBlk V c 7 t)
    | ⟨11, _⟩ => prepOut11 (prepBlk V c 0 t) (prepBlk V c 1 t) (prepBlk V c 2 t) (prepBlk V c 3 t) (prepBlk V c 4 t) (prepBlk V c 5 t) (prepBlk V c 6 t) (prepBlk V c 7 t)
    | ⟨12, _⟩ => prepOut12 (prepBlk V c 0 t) (prepBlk V c 1 t) (prepBlk V c 2 t) (prepBlk V c 3 t) (prepBlk V c 4 t) (prepBlk V c 5 t) (prepBlk V c 6 t) (prepBlk V c 7 t)
    | ⟨13, _⟩ => prepOut13 (prepBlk V c 0 t) (prepBlk V c 1 t) (prepBlk V c 2 t) (prepBlk V c 3 t) (prepBlk V c 4 t) (prepBlk V c 5 t) (prepBlk V c 6 t) (prepBlk V c 7 t)
    | ⟨14, _⟩ => prepOut14 (prepBlk V c 0 t) (prepBlk V c 1 t) (prepBlk V c 2 t) (prepBlk V c 3 t) (prepBlk V c 4 t) (prepBlk V c 5 t) (prepBlk V c 6 t) (prepBlk V c 7 t)
  Φ _ := Pipeline.ΦA spec0 c
  q _ := fullShare
  owed _ := 0

/-- The proof data starts from the entry contents. -/
theorem prep_A (c : Dev nD) (w : Fin cfg0.W) : (prepDat V c).A w = V c (Pipeline.arrRef spec0 w) := by
  dsimp only [prepDat]

/-- The contents the proof data names for window 0 after the body. -/
theorem prep_after_0 (c : Dev nD) (t : Fin cfg0.N) : (prepDat V c).after 0 t = prepBlk V c 0 t := by dsimp only [prepDat]
/-- The contents the proof data names for window 1 after the body. -/
theorem prep_after_1 (c : Dev nD) (t : Fin cfg0.N) : (prepDat V c).after 1 t = prepBlk V c 1 t := by dsimp only [prepDat]
/-- The contents the proof data names for window 2 after the body. -/
theorem prep_after_2 (c : Dev nD) (t : Fin cfg0.N) : (prepDat V c).after 2 t = prepBlk V c 2 t := by dsimp only [prepDat]
/-- The contents the proof data names for window 3 after the body. -/
theorem prep_after_3 (c : Dev nD) (t : Fin cfg0.N) : (prepDat V c).after 3 t = prepBlk V c 3 t := by dsimp only [prepDat]
/-- The contents the proof data names for window 4 after the body. -/
theorem prep_after_4 (c : Dev nD) (t : Fin cfg0.N) : (prepDat V c).after 4 t = prepBlk V c 4 t := by dsimp only [prepDat]
/-- The contents the proof data names for window 5 after the body. -/
theorem prep_after_5 (c : Dev nD) (t : Fin cfg0.N) : (prepDat V c).after 5 t = prepBlk V c 5 t := by dsimp only [prepDat]
/-- The contents the proof data names for window 6 after the body. -/
theorem prep_after_6 (c : Dev nD) (t : Fin cfg0.N) : (prepDat V c).after 6 t = prepBlk V c 6 t := by dsimp only [prepDat]
/-- The contents the proof data names for window 7 after the body. -/
theorem prep_after_7 (c : Dev nD) (t : Fin cfg0.N) : (prepDat V c).after 7 t = prepBlk V c 7 t := by dsimp only [prepDat]
/-- The contents the proof data names for window 8 after the body. -/
theorem prep_after_8 (c : Dev nD) (t : Fin cfg0.N) : (prepDat V c).after 8 t = prepOut8 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 9 after the body. -/
theorem prep_after_9 (c : Dev nD) (t : Fin cfg0.N) : (prepDat V c).after 9 t = prepOut9 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 10 after the body. -/
theorem prep_after_10 (c : Dev nD) (t : Fin cfg0.N) : (prepDat V c).after 10 t = prepOut10 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 11 after the body. -/
theorem prep_after_11 (c : Dev nD) (t : Fin cfg0.N) : (prepDat V c).after 11 t = prepOut11 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 12 after the body. -/
theorem prep_after_12 (c : Dev nD) (t : Fin cfg0.N) : (prepDat V c).after 12 t = prepOut12 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 13 after the body. -/
theorem prep_after_13 (c : Dev nD) (t : Fin cfg0.N) : (prepDat V c).after 13 t = prepOut13 (prepBlk V c 0 t) (prepBlk V c 1 t) (prepBlk V c 2 t) (prepBlk V c 3 t) (prepBlk V c 4 t) (prepBlk V c 5 t) (prepBlk V c 6 t) (prepBlk V c 7 t) := by dsimp only [prepDat]
/-- The contents the proof data names for window 14 after the body. -/
theorem prep_after_14 (c : Dev nD) (t : Fin cfg0.N) : (prepDat V c).after 14 t = prepOut14 (prepBlk V c 0 t) (prepBlk V c 1 t) (prepBlk V c 2 t) (prepBlk V c 3 t) (prepBlk V c 4 t) (prepBlk V c 5 t) (prepBlk V c 6 t) (prepBlk V c 7 t) := by dsimp only [prepDat]

/-- The contents the body finds in window 0. -/
theorem prep_bef_0 (c : Dev nD) (t : Fin cfg0.N) (d) : (prepDat V c).before 0 t d = prepBlk V c 0 t :=
  prep_bef_of_0 V (prepDat V c) (prep_A V c 0) (prep_after_0 V c) t d
/-- The contents the body finds in window 1. -/
theorem prep_bef_1 (c : Dev nD) (t : Fin cfg0.N) (d) : (prepDat V c).before 1 t d = prepBlk V c 1 t :=
  prep_bef_of_1 V (prepDat V c) (prep_A V c 1) (prep_after_1 V c) t d
/-- The contents the body finds in window 2. -/
theorem prep_bef_2 (c : Dev nD) (t : Fin cfg0.N) (d) : (prepDat V c).before 2 t d = prepBlk V c 2 t :=
  prep_bef_of_2 V (prepDat V c) (prep_A V c 2) (prep_after_2 V c) t d
/-- The contents the body finds in window 3. -/
theorem prep_bef_3 (c : Dev nD) (t : Fin cfg0.N) (d) : (prepDat V c).before 3 t d = prepBlk V c 3 t :=
  prep_bef_of_3 V (prepDat V c) (prep_A V c 3) (prep_after_3 V c) t d
/-- The contents the body finds in window 4. -/
theorem prep_bef_4 (c : Dev nD) (t : Fin cfg0.N) (d) : (prepDat V c).before 4 t d = prepBlk V c 4 t :=
  prep_bef_of_4 V (prepDat V c) (prep_A V c 4) (prep_after_4 V c) t d
/-- The contents the body finds in window 5. -/
theorem prep_bef_5 (c : Dev nD) (t : Fin cfg0.N) (d) : (prepDat V c).before 5 t d = prepBlk V c 5 t :=
  prep_bef_of_5 V (prepDat V c) (prep_A V c 5) (prep_after_5 V c) t d
/-- The contents the body finds in window 6. -/
theorem prep_bef_6 (c : Dev nD) (t : Fin cfg0.N) (d) : (prepDat V c).before 6 t d = prepBlk V c 6 t :=
  prep_bef_of_6 V (prepDat V c) (prep_A V c 6) (prep_after_6 V c) t d
/-- The contents the body finds in window 7. -/
theorem prep_bef_7 (c : Dev nD) (t : Fin cfg0.N) (d) : (prepDat V c).before 7 t d = prepBlk V c 7 t :=
  prep_bef_of_7 V (prepDat V c) (prep_A V c 7) (prep_after_7 V c) t d

/-- What the body is handed at a point, window by window. -/
def prepPre (c : Dev nD) (t : Fin cfg0.N) : sProp 𝕄 :=
  iprop((prepDat V c).Φ t.castSucc ∗ (prepDat V c).owesAt () t.castSucc
    ∗ (∃ d, owns (c : Thread nD τ) (st0_0 t) fullShare ((prepDat V c).before 0 t d))
    ∗ (∃ d, owns (c : Thread nD τ) (st0_1 t) fullShare ((prepDat V c).before 1 t d))
    ∗ (∃ d, owns (c : Thread nD τ) (st0_2 t) fullShare ((prepDat V c).before 2 t d))
    ∗ (∃ d, owns (c : Thread nD τ) (st0_3 t) fullShare ((prepDat V c).before 3 t d))
    ∗ (∃ d, owns (c : Thread nD τ) (st0_4 t) fullShare ((prepDat V c).before 4 t d))
    ∗ (∃ d, owns (c : Thread nD τ) (st0_5 t) fullShare ((prepDat V c).before 5 t d))
    ∗ (∃ d, owns (c : Thread nD τ) (st0_6 t) fullShare ((prepDat V c).before 6 t d))
    ∗ (∃ d, owns (c : Thread nD τ) (st0_7 t) fullShare ((prepDat V c).before 7 t d))
    ∗ (∃ d, owns (c : Thread nD τ) (st0_8 t) fullShare ((prepDat V c).before 8 t d))
    ∗ (∃ d, owns (c : Thread nD τ) (st0_9 t) fullShare ((prepDat V c).before 9 t d))
    ∗ (∃ d, owns (c : Thread nD τ) (st0_10 t) fullShare ((prepDat V c).before 10 t d))
    ∗ (∃ d, owns (c : Thread nD τ) (st0_11 t) fullShare ((prepDat V c).before 11 t d))
    ∗ (∃ d, owns (c : Thread nD τ) (st0_12 t) fullShare ((prepDat V c).before 12 t d))
    ∗ (∃ d, owns (c : Thread nD τ) (st0_13 t) fullShare ((prepDat V c).before 13 t d))
    ∗ (∃ d, owns (c : Thread nD τ) (st0_14 t) fullShare ((prepDat V c).before 14 t d)))

/-- What the body hands back. -/
def prepPost (c : Dev nD) (t : Fin cfg0.N) : sProp 𝕄 :=
  iprop((prepDat V c).Φ t.succ ∗ (prepDat V c).owesAt () t.succ
    ∗ owns (c : Thread nD τ) (st0_0 t) fullShare ((prepDat V c).after 0 t)
    ∗ owns (c : Thread nD τ) (st0_1 t) fullShare ((prepDat V c).after 1 t)
    ∗ owns (c : Thread nD τ) (st0_2 t) fullShare ((prepDat V c).after 2 t)
    ∗ owns (c : Thread nD τ) (st0_3 t) fullShare ((prepDat V c).after 3 t)
    ∗ owns (c : Thread nD τ) (st0_4 t) fullShare ((prepDat V c).after 4 t)
    ∗ owns (c : Thread nD τ) (st0_5 t) fullShare ((prepDat V c).after 5 t)
    ∗ owns (c : Thread nD τ) (st0_6 t) fullShare ((prepDat V c).after 6 t)
    ∗ owns (c : Thread nD τ) (st0_7 t) fullShare ((prepDat V c).after 7 t)
    ∗ owns (c : Thread nD τ) (st0_8 t) fullShare ((prepDat V c).after 8 t)
    ∗ owns (c : Thread nD τ) (st0_9 t) fullShare ((prepDat V c).after 9 t)
    ∗ owns (c : Thread nD τ) (st0_10 t) fullShare ((prepDat V c).after 10 t)
    ∗ owns (c : Thread nD τ) (st0_11 t) fullShare ((prepDat V c).after 11 t)
    ∗ owns (c : Thread nD τ) (st0_12 t) fullShare ((prepDat V c).after 12 t)
    ∗ owns (c : Thread nD τ) (st0_13 t) fullShare ((prepDat V c).after 13 t)
    ∗ owns (c : Thread nD τ) (st0_14 t) fullShare ((prepDat V c).after 14 t))

/-- The body at a point, from its triple. -/
theorem prep_body (c : Dev nD) (t : Fin cfg0.N) :
    prepPre V c t ⊢ wp frame (wpE (defs₀ (F := F)) Variants.none c none) Set.univ (bodyAt0 t) (fun _ => prepPost V c t) := by
  unfold prepPre prepPost bodyAt0
  simp only [prep_bef_0, prep_bef_1, prep_bef_2, prep_bef_3, prep_bef_4, prep_bef_5, prep_bef_6, prep_bef_7]
  rw [show (prepDat V c).Φ t.succ = (prepDat V c).Φ t.castSucc from rfl,
    show (prepDat V c).owesAt () t.succ = (prepDat V c).owesAt () t.castSucc from rfl,
    prep_after_0, prep_after_1, prep_after_2, prep_after_3, prep_after_4, prep_after_5, prep_after_6, prep_after_7, prep_after_8, prep_after_9, prep_after_10, prep_after_11, prep_after_12, prep_after_13, prep_after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (prep_triple c Set.univ _ _ _ _ _ _ _ _ _ _ _ _ _ _ _ _ _ _ _ _ _ _ _ _ _ _ _ _ _ _ (prepBlk V c 0 t) (prepBlk V c 1 t) (prepBlk V c 2 t) (prepBlk V c 3 t) (prepBlk V c 4 t) (prepBlk V c 5 t) (prepBlk V c 6 t) (prepBlk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The table row of the body is the body itself. -/
theorem prep_row (t : Fin cfg0.N) :
    defs₀ (F := F) .tc cfg0.body (cfg0.bodyArgs t (cfg0.slots t)) = bodyAt0 t := by
  unfold defs₀; rw [Defs.onTc_tc]

/-- The obligation the pipeline library asks of the body. -/
theorem prep_obligation (c : Dev nD) : BodyObligation (prepDat (F := F) V c) (defs₀ (F := F)) Variants.none () Set.univ := fun t => by
  rw [bigSep_W0, bigSep_W0, prep_row]
  exact triple_restated (prep_body V c t) rfl .rfl fun _ => .rfl

end Regions

end Cert.KernelIdeal.Hand
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second kernel call, one block of rows: the stages of its body as functions of the input blocks and of the scratch
carried from the preceding block, and the triple of the body over them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The fourteen input blocks of a grid point. -/
structure Blk (F : FTy → Type) where
  x : Vec F S1x1024x1024 .f32
  win : Vec F S1024x1024 .bf16
  bin : Vec F S1x1024 .f32
  cw : Vec F S5x1024 .bf16
  cb : Vec F S1x1024 .bf16
  wq : Vec F S1024x1024 .bf16
  bhead : Vec F S1x3 .f32
  wah : Vec F S1024x1152 .bf16
  wb : Vec F S1024x1024 .bf16
  bq : Vec F S1x1024 .f32
  w2 : Vec F S1024x1024 .bf16
  b2 : Vec F S1x1024 .f32
  wout : Vec F S1024x1024 .bf16
  bout : Vec F S1x1024 .f32

/-- A rectangle the body loads or stores. -/
abbrev rX : Rect S1x1024x1024 := Rect.unit (s := S1x1024x1024) ![0, 0, 0] S1x1024x1024.size inb_S1x1024x1024_S1x1024x1024_0_0_0
/-- A rectangle the body loads or stores. -/
abbrev rSq : Rect S1024x1024 := Rect.unit (s := S1024x1024) ![0, 0] S1024x1024.size inb_S1024x1024_S1024x1024_0_0
/-- A rectangle the body loads or stores. -/
abbrev rWide : Rect S1024x1152 := Rect.unit (s := S1024x1152) ![0, 0] S1024x1152.size inb_S1024x1152_S1024x1152_0_0
/-- A rectangle the body loads or stores. -/
abbrev rRow : Rect S1x1024 := Rect.unit (s := S1x1024) ![0, 0] S1x1024.size inb_S1x1024_S1x1024_0_0
/-- A rectangle the body loads or stores. -/
abbrev rC0 : Rect S5x1024 := Rect.unit (s := S5x1024) ![0, 0] S1x1024.size inb_S5x1024_S1x1024_0_0
/-- A rectangle the body loads or stores. -/
abbrev rC1 : Rect S5x1024 := Rect.unit (s := S5x1024) ![1, 0] S1x1024.size inb_S5x1024_S1x1024_1_0
/-- A rectangle the body loads or stores. -/
abbrev rC2 : Rect S5x1024 := Rect.unit (s := S5x1024) ![2, 0] S1x1024.size inb_S5x1024_S1x1024_2_0
/-- A rectangle the body loads or stores. -/
abbrev rC3 : Rect S5x1024 := Rect.unit (s := S5x1024) ![3, 0] S1x1024.size inb_S5x1024_S1x1024_3_0
/-- A rectangle the body loads or stores. -/
abbrev rC4 : Rect S5x1024 := Rect.unit (s := S5x1024) ![4, 0] S1x1024.size inb_S5x1024_S1x1024_4_0
/-- A rectangle the body loads or stores. -/
abbrev rH0 : Rect S1x3 := Rect.unit (s := S1x3) ![0, 0] S1x1.size inb_S1x3_S1x1_0_0
/-- A rectangle the body loads or stores. -/
abbrev rH1 : Rect S1x3 := Rect.unit (s := S1x3) ![0, 1] S1x1.size inb_S1x3_S1x1_0_1
/-- A rectangle the body loads or stores. -/
abbrev rH2 : Rect S1x3 := Rect.unit (s := S1x3) ![0, 2] S1x1.size inb_S1x3_S1x1_0_2
/-- A rectangle the body loads or stores. -/
abbrev rT0 : Rect S3x8x1024 := Rect.unit (s := S3x8x1024) ![0, 0, 0] S1x8x1024.size inb_S3x8x1024_S1x8x1024_0_0_0
/-- A rectangle the body loads or stores. -/
abbrev rT1 : Rect S3x8x1024 := Rect.unit (s := S3x8x1024) ![1, 0, 0] S1x8x1024.size inb_S3x8x1024_S1x8x1024_1_0_0
/-- A rectangle the body loads or stores. -/
abbrev rT2 : Rect S3x8x1024 := Rect.unit (s := S3x8x1024) ![2, 0, 0] S1x8x1024.size inb_S3x8x1024_S1x8x1024_2_0_0
/-- A rectangle the body loads or stores. -/
abbrev rOne : Rect S1x1x1x1 := Rect.unit (s := S1x1x1x1) ![0, 0, 0, 0] S1x1x1x1.size inb_S1x1x1x1_S1x1x1x1_0_0_0_0

section Stages
variable (i : grid1.Coords) (b : Blk F) (s : Vec F S3x8x1024 .bf16)

/-- Whether the point is the first of its sequence, as the one-bit word the body selects with. -/
def isFirst : BitVec 1 := Scalar.cmpi .eq (BitVec.ofNat 32 (i 1).val) 0#32
/-- The rows of the block itself. -/
def rows : FVec F S1024x1024 .f32 := k1_pay2 (View.ld b.x rX)
/-- The hidden rows before the first micro-step. -/
def hid0 : FVec F S1024x1024 .f32 := k1_pay3 (View.ld b.x rX) (View.ld b.win rSq) (View.ld b.bin rRow)
/-- The same rows at the matrix unit's width. -/
def low0 : FVec F S1024x1024 .bf16 := k1_pay4 (View.ld b.x rX) (View.ld b.win rSq) (View.ld b.bin rRow)
/-- Four rows of history followed by the hidden rows, at the first micro-step. -/
def cat0 : FVec F S1028x1024 .bf16 := k1_pay6 i (View.ld b.x rX) (View.ld b.win rSq) (View.ld b.bin rRow) (View.ld s rT0)
/-- The causal mix of the first micro-step. -/
def mix0 : FVec F S1024x1024 .bf16 :=
  k1_pay10 (cat0 i b s)
    (k1_pay7 i (View.ld b.x rX) (View.ld b.win rSq) (View.ld b.bin rRow) (View.ld s rT0) (View.ld b.cb rRow) (View.ld b.cw rC0))
    (k1_pay8 i (View.ld b.x rX) (View.ld b.win rSq) (View.ld b.bin rRow) (View.ld s rT0))
    (k1_pay9 (View.ld b.cw rC1)) (View.ld b.cw rC2) (View.ld b.cw rC3) (View.ld b.cw rC4)
/-- The phrase term of the first micro-step. -/
def phr0 : FVec F S1024x1024 .f32 := k1_pay11 (low0 b) (View.ld b.wq rSq) (View.ld b.bq rRow)
/-- The hidden rows times the joined matrix, at the first micro-step. -/
def joint0 : FVec F S1024x1152 .f32 := k1_pay12 (low0 b) (View.ld b.wah rWide)
/-- Its first thousand and twenty-four columns. -/
def part0 : FVec F S1024x1024 .f32 := k1_pay13 (low0 b) (View.ld b.wah rWide)
/-- The hidden rows after the first micro-step. -/
def hid1 : FVec F S1024x1024 .f32 :=
  k1_pay14 (hid0 b) (mix0 i b s) (phr0 b) (joint0 b) (part0 b) (View.ld b.wb rSq) (View.ld b.w2 rSq) (View.ld b.b2 rRow) (View.ld b.bhead rH2)
/-- The same rows at the matrix unit's width. -/
def low1 : FVec F S1024x1024 .bf16 :=
  k1_pay15 (hid0 b) (mix0 i b s) (phr0 b) (joint0 b) (part0 b) (View.ld b.wb rSq) (View.ld b.w2 rSq) (View.ld b.b2 rRow) (View.ld b.bhead rH2)
/-- Four rows of history followed by the hidden rows, at the second micro-step. -/
def cat1 : FVec F S1028x1024 .bf16 :=
  k1_pay17 (isFirst i) (hid0 b) (mix0 i b s) (phr0 b) (joint0 b) (part0 b) (View.ld b.wb rSq) (View.ld b.w2 rSq) (View.ld b.b2 rRow) (View.ld b.bhead rH2) (View.ld s rT1)
/-- The causal mix of the second micro-step. -/
def mix1 : FVec F S1024x1024 .bf16 :=
  k1_pay20 (cat1 i b s) (k1_pay18 (View.ld b.cb rRow))
    (k1_pay19 (isFirst i) (hid0 b) (mix0 i b s) (phr0 b) (joint0 b) (part0 b) (View.ld b.wb rSq) (View.ld b.w2 rSq) (View.ld b.b2 rRow) (View.ld b.bhead rH2) (View.ld s rT1) (View.ld b.cw rC0))
    (View.ld b.cw rC1) (View.ld b.cw rC2) (View.ld b.cw rC3) (View.ld b.cw rC4)
/-- The phrase term of the second micro-step. -/
def phr1 : FVec F S1024x1024 .f32 := k1_pay21 (low1 i b s) (View.ld b.wq rSq) (View.ld b.bq rRow)
/-- The hidden rows after the second micro-step. -/
def hid2 : FVec F S1024x1024 .f32 :=
  k1_pay22 (hid1 i b s) (low1 i b s) (mix1 i b s) (phr1 i b s) (View.ld b.wah rWide) (View.ld b.wb rSq) (View.ld b.w2 rSq) (View.ld b.b2 rRow) (View.ld b.bhead rH2)
/-- The same rows at the matrix unit's width. -/
def low2 : FVec F S1024x1024 .bf16 :=
  k1_pay23 (hid1 i b s) (low1 i b s) (mix1 i b s) (phr1 i b s) (View.ld b.wah rWide) (View.ld b.wb rSq) (View.ld b.w2 rSq) (View.ld b.b2 rRow) (View.ld b.bhead rH2)
/-- Four rows of history followed by the hidden rows, at the third micro-step. -/
def cat2 : FVec F S1028x1024 .bf16 :=
  k1_pay25 (isFirst i) (hid1 i b s) (low1 i b s) (mix1 i b s) (phr1 i b s) (View.ld b.wah rWide) (View.ld b.wb rSq) (View.ld b.w2 rSq) (View.ld b.b2 rRow) (View.ld b.bhead rH2) (View.ld s rT2)
/-- The causal mix of the third micro-step. -/
def mix2 : FVec F S1024x1024 .bf16 :=
  k1_pay26 (cat2 i b s) (View.ld b.cb rRow) (View.ld b.cw rC0) (View.ld b.cw rC1) (View.ld b.cw rC2) (View.ld b.cw rC3) (View.ld b.cw rC4)
/-- The phrase means of the third micro-step times their matrix. -/
def phr2 : FVec F S32x1024 .f32 := k1_pay27 (low2 i b s) (View.ld b.wq rSq)
/-- The update of the third micro-step, before its gate. -/
def upd2 : FVec F S1024x1024 .f32 :=
  k1_pay30 (low2 i b s) (mix2 i b s) (phr2 i b s) (k1_pay28 (View.ld b.bq rRow)) (View.ld b.wah rWide) (View.ld b.wb rSq) (View.ld b.w2 rSq) (View.ld b.b2 rRow)
/-- The halting gate of the third micro-step. -/
def gate2 : FVec F S1024x1 .f32 := k1_pay31 (low2 i b s) (View.ld b.wah rWide) (View.ld b.bhead rH2)
/-- The block of the result. -/
def outB : Vec F S1x1024x1024 .f32 :=
  k1_pay1 (k1_pay37 (rows b) (hid2 i b s) (upd2 i b s) (gate2 i b s) (View.ld b.wout rSq) (View.ld b.bout rRow))
/-- The block's salience sum. -/
def salB : Vec F S1x1x1x1 .f32 := k1_pay34 (k1_pay33 (low2 i b s) (View.ld b.wah rWide) (View.ld b.bhead rH0))
/-- The block's uncertainty sum. -/
def uncB : Vec F S1x1x1x1 .f32 := k1_pay35 (k1_pay32 (low2 i b s) (View.ld b.wah rWide) (View.ld b.bhead rH1))
/-- The block's halting sum. -/
def haltB : Vec F S1x1x1x1 .f32 := k1_pay36 (gate2 i b s)
/-- The scratch after the body: per micro-step the last eight hidden rows. -/
def tailsB : Vec F S3x8x1024 .bf16 :=
  View.canon [⟨rT2, k1_pay24 (hid1 i b s) (low1 i b s) (mix1 i b s) (phr1 i b s) (View.ld b.wah rWide) (View.ld b.wb rSq) (View.ld b.w2 rSq) (View.ld b.b2 rRow) (View.ld b.bhead rH2)⟩,
    ⟨rT1, k1_pay16 (hid0 b) (mix0 i b s) (phr0 b) (joint0 b) (part0 b) (View.ld b.wb rSq) (View.ld b.w2 rSq) (View.ld b.b2 rRow) (View.ld b.bhead rH2)⟩,
    ⟨rT0, k1_pay5 (View.ld b.x rX) (View.ld b.win rSq) (View.ld b.bin rRow)⟩]
end Stages

/-- The three stores cover the scratch. -/
theorem tails_cover (p0 p1 p2 : Vec F S1x8x1024 .bf16) (y : S3x8x1024.Idx) :
    ∃ pc ∈ ([⟨rT2, p2⟩, ⟨rT1, p1⟩, ⟨rT0, p0⟩] : List (View.Piece (Elt F) S3x8x1024 .bf16)), y ∈ pc.1.set :=
  View.cover_of_tiled [⟨rT2, p2⟩, ⟨rT1, p1⟩, ⟨rT0, p0⟩] S1x8x1024.size (by rfl) y
/-- One store covers a block of the result. -/
theorem out_cover (p : Vec F S1x1024x1024 .f32) (y : S1x1024x1024.Idx) :
    ∃ pc ∈ ([⟨rX, p⟩] : List (View.Piece (Elt F) S1x1024x1024 .f32)), y ∈ pc.1.set :=
  View.cover_of_tiled [⟨rX, p⟩] S1x1024x1024.size (by rfl) y
/-- One store covers a one-element buffer. -/
theorem one_cover (p : Vec F S1x1x1x1 .f32) (y : S1x1x1x1.Idx) :
    ∃ pc ∈ ([⟨rOne, p⟩] : List (View.Piece (Elt F) S1x1x1x1 .f32)), y ∈ pc.1.set :=
  View.cover_of_tiled [⟨rOne, p⟩] S1x1x1x1.size (by rfl) y

set_option maxHeartbeats 4000000 in
/-- The second call's body on whole buffers, with its scratch at contents `s`: the inputs are kept, the outputs and the
    scratch end at the functions above. -/
theorem block_triple (c : Dev nD) (E : Set ℕ) (i : grid1.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S5x1024 .bf16) (harg5 : arg5.IsWhole) (arg6 : Memref sig .tc .vmem S1x1024 .bf16) (harg6 : arg6.IsWhole) (arg7 : Memref sig .tc .vmem S1024x1024 .bf16) (harg7 : arg7.IsWhole) (arg8 : Memref sig .tc .vmem S1x3 .f32) (harg8 : arg8.IsWhole) (arg9 : Memref sig .tc .vmem S1024x1152 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1x1x1x1 .f32) (harg17 : arg17.IsWhole) (arg18 : Memref sig .tc .vmem S1x1x1x1 .f32) (harg18 : arg18.IsWhole) (arg19 : Memref sig .tc .vmem S1x1x1x1 .f32) (harg19 : arg19.IsWhole) (arg20 : Memref sig .tc .vmem S3x8x1024 .bf16) (harg20 : arg20.IsWhole)
    (b : Blk F) (s : Vec F S3x8x1024 .bf16) (K : PUnit → sProp 𝕄) :
    iprop(owns (c : Thread nD τ) arg2 fullShare b.x ∗ owns (c : Thread nD τ) arg3 fullShare b.win ∗ owns (c : Thread nD τ) arg4 fullShare b.bin ∗ owns (c : Thread nD τ) arg5 fullShare b.cw ∗ owns (c : Thread nD τ) arg6 fullShare b.cb ∗ owns (c : Thread nD τ) arg7 fullShare b.wq ∗ owns (c : Thread nD τ) arg8 fullShare b.bhead ∗ owns (c : Thread nD τ) arg9 fullShare b.wah ∗ owns (c : Thread nD τ) arg10 fullShare b.wb ∗ owns (c : Thread nD τ) arg11 fullShare b.bq ∗ owns (c : Thread nD τ) arg12 fullShare b.w2 ∗ owns (c : Thread nD τ) arg13 fullShare b.b2 ∗ owns (c : Thread nD τ) arg14 fullShare b.wout ∗ owns (c : Thread nD τ) arg15 fullShare b.bout ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare s
        ∗ (iprop(owns (c : Thread nD τ) arg2 fullShare b.x ∗ owns (c : Thread nD τ) arg3 fullShare b.win ∗ owns (c : Thread nD τ) arg4 fullShare b.bin ∗ owns (c : Thread nD τ) arg5 fullShare b.cw ∗ owns (c : Thread nD τ) arg6 fullShare b.cb ∗ owns (c : Thread nD τ) arg7 fullShare b.wq ∗ owns (c : Thread nD τ) arg8 fullShare b.bhead ∗ owns (c : Thread nD τ) arg9 fullShare b.wah ∗ owns (c : Thread nD τ) arg10 fullShare b.wb ∗ owns (c : Thread nD τ) arg11 fullShare b.bq ∗ owns (c : Thread nD τ) arg12 fullShare b.w2 ∗ owns (c : Thread nD τ) arg13 fullShare b.b2 ∗ owns (c : Thread nD τ) arg14 fullShare b.wout ∗ owns (c : Thread nD τ) arg15 fullShare b.bout ∗ owns (c : Thread nD τ) arg16 fullShare (View.canon [⟨rX, outB i b s⟩]) ∗ owns (c : Thread nD τ) arg17 fullShare (View.canon [⟨rOne, salB i b s⟩]) ∗ owns (c : Thread nD τ) arg18 fullShare (View.canon [⟨rOne, uncB i b s⟩]) ∗ owns (c : Thread nD τ) arg19 fullShare (View.canon [⟨rOne, haltB i b s⟩]) ∗ owns (c : Thread nD τ) arg20 fullShare (tailsB i b s)) -∗ K ⟨⟩))
      ⊢ wp frame (wpE (defs₀ (F := F)) Variants.none c none) E (cc1__block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  obtain ⟨x0, x1, x2, x3, x4, x5, x6, x7, x8, x9, x10, x11, x12, x13⟩ := b
  simp only [cc1__block_eq_skeleton]; unfold cc1__block_skel
  simp only [k1_part8_eq_skeleton, k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%fs, %hfs, HS⟩, Hk⟩
  subst hf0 hf1 hf2 hf3 hf4 hf5 hf6 hf7 hf8 hf9 hf10 hf11 hf12 hf13 hfs
  sl_exec
  sl_step
  iapply Hk
  let B : Blk F := ⟨arg2.view.read (Elt F) f0, arg3.view.read (Elt F) f1, arg4.view.read (Elt F) f2, arg5.view.read (Elt F) f3, arg6.view.read (Elt F) f4, arg7.view.read (Elt F) f5, arg8.view.read (Elt F) f6, arg9.view.read (Elt F) f7, arg10.view.read (Elt F) f8, arg11.view.read (Elt F) f9, arg12.view.read (Elt F) f10, arg13.view.read (Elt F) f11, arg14.view.read (Elt F) f12, arg15.view.read (Elt F) f13⟩
  let T : Vec F S3x8x1024 .bf16 := arg20.view.read (Elt F) fs
  have Ev0 : block_triple.sl.v0 i = isFirst i := by
    delta block_triple.sl.v0
    simp only [isFirst, View.readAt_eq_ld]
    try rfl
  have Er : block_triple.sl.r c arg2 f0 = rows B := by
    delta block_triple.sl.r
    simp only [rows, View.readAt_eq_ld, Ev0]
    try rfl
  have Er_1 : block_triple.sl.r_1 c arg2 arg3 arg4 f0 f1 f2 = hid0 B := by
    delta block_triple.sl.r_1
    simp only [hid0, View.readAt_eq_ld, Ev0, Er]
    try rfl
  have Er_2 : block_triple.sl.r_2 c arg2 arg3 arg4 f0 f1 f2 = low0 B := by
    delta block_triple.sl.r_2
    simp only [low0, View.readAt_eq_ld, Ev0, Er, Er_1]
    try rfl
  have Er_3 : block_triple.sl.r_3 c i arg2 arg3 arg4 arg20 f0 f1 f2 fs = cat0 i B T := by
    delta block_triple.sl.r_3
    simp only [cat0, View.readAt_eq_ld, Ev0, Er, Er_1, Er_2]
    try rfl
  have Er_7 : block_triple.sl.r_7 c i arg2 arg3 arg4 arg5 arg6 arg20 f0 f1 f2 f3 f4 fs = mix0 i B T := by
    delta block_triple.sl.r_7 block_triple.sl.r_4 block_triple.sl.r_5 block_triple.sl.r_6
    simp only [mix0, View.readAt_eq_ld, Ev0, Er, Er_1, Er_2, Er_3]
    try rfl
  have Er_8 : block_triple.sl.r_8 c arg2 arg3 arg4 arg7 arg11 f0 f1 f2 f5 f9 = phr0 B := by
    delta block_triple.sl.r_8
    simp only [phr0, View.readAt_eq_ld, Ev0, Er, Er_1, Er_2, Er_3, Er_7]
    try rfl
  have Er_9 : block_triple.sl.r_9 c arg2 arg3 arg4 arg9 f0 f1 f2 f7 = joint0 B := by
    delta block_triple.sl.r_9
    simp only [joint0, View.readAt_eq_ld, Ev0, Er, Er_1, Er_2, Er_3, Er_7, Er_8]
    try rfl
  have Er_10 : block_triple.sl.r_10 c arg2 arg3 arg4 arg9 f0 f1 f2 f7 = part0 B := by
    delta block_triple.sl.r_10
    simp only [part0, View.readAt_eq_ld, Ev0, Er, Er_1, Er_2, Er_3, Er_7, Er_8, Er_9]
    try rfl
  have Er_12 : block_triple.sl.r_12 c i arg2 arg3 arg4 arg5 arg6 arg7 arg8 arg9 arg10 arg11 arg12 arg13 arg20 f0 f1 f2 f3 f4 f5 f6 f7 f8 f9 f10 f11 fs = hid1 i B T := by
    delta block_triple.sl.r_12 block_triple.sl.r_11
    simp only [hid1, View.readAt_eq_ld, Ev0, Er, Er_1, Er_2, Er_3, Er_7, Er_8, Er_9, Er_10]
    try rfl
  have Er_13 : block_triple.sl.r_13 c i arg2 arg3 arg4 arg5 arg6 arg7 arg8 arg9 arg10 arg11 arg12 arg13 arg20 f0 f1 f2 f3 f4 f5 f6 f7 f8 f9 f10 f11 fs = low1 i B T := by
    delta block_triple.sl.r_13 block_triple.sl.r_11
    simp only [low1, View.readAt_eq_ld, Ev0, Er, Er_1, Er_2, Er_3, Er_7, Er_8, Er_9, Er_10, Er_12]
    try rfl
  have Er_14 : block_triple.sl.r_14 c i arg2 arg3 arg4 arg5 arg6 arg7 arg8 arg9 arg10 arg11 arg12 arg13 arg20 f0 f1 f2 f3 f4 f5 f6 f7 f8 f9 f10 f11 fs = cat1 i B T := by
    delta block_triple.sl.r_14 block_triple.sl.r_11 block_triple.sl.v101
    simp only [cat1, View.readAt_eq_ld, Ev0, Er, Er_1, Er_2, Er_3, Er_7, Er_8, Er_9, Er_10, Er_12, Er_13]
    try rfl
  have Er_17 : block_triple.sl.r_17 c i arg2 arg3 arg4 arg5 arg6 arg7 arg8 arg9 arg10 arg11 arg12 arg13 arg20 f0 f1 f2 f3 f4 f5 f6 f7 f8 f9 f10 f11 fs = mix1 i B T := by
    delta block_triple.sl.r_17 block_triple.sl.r_15 block_triple.sl.r_16 block_triple.sl.r_11 block_triple.sl.v101
    simp only [mix1, View.readAt_eq_ld, Ev0, Er, Er_1, Er_2, Er_3, Er_7, Er_8, Er_9, Er_10, Er_12, Er_13, Er_14]
    try rfl
  have Er_18 : block_triple.sl.r_18 c i arg2 arg3 arg4 arg5 arg6 arg7 arg8 arg9 arg10 arg11 arg12 arg13 arg20 f0 f1 f2 f3 f4 f5 f6 f7 f8 f9 f10 f11 fs = phr1 i B T := by
    delta block_triple.sl.r_18
    simp only [phr1, View.readAt_eq_ld, Ev0, Er, Er_1, Er_2, Er_3, Er_7, Er_8, Er_9, Er_10, Er_12, Er_13, Er_14, Er_17]
    try rfl
  have Er_19 : block_triple.sl.r_19 c i arg2 arg3 arg4 arg5 arg6 arg7 arg8 arg9 arg10 arg11 arg12 arg13 arg20 f0 f1 f2 f3 f4 f5 f6 f7 f8 f9 f10 f11 fs = hid2 i B T := by
    delta block_triple.sl.r_19
    simp only [hid2, View.readAt_eq_ld, Ev0, Er, Er_1, Er_2, Er_3, Er_7, Er_8, Er_9, Er_10, Er_12, Er_13, Er_14, Er_17, Er_18]
    try rfl
  have Er_20 : block_triple.sl.r_20 c i arg2 arg3 arg4 arg5 arg6 arg7 arg8 arg9 arg10 arg11 arg12 arg13 arg20 f0 f1 f2 f3 f4 f5 f6 f7 f8 f9 f10 f11 fs = low2 i B T := by
    delta block_triple.sl.r_20
    simp only [low2, View.readAt_eq_ld, Ev0, Er, Er_1, Er_2, Er_3, Er_7, Er_8, Er_9, Er_10, Er_12, Er_13, Er_14, Er_17, Er_18, Er_19]
    try rfl
  have Er_21 : block_triple.sl.r_21 c i arg2 arg3 arg4 arg5 arg6 arg7 arg8 arg9 arg10 arg11 arg12 arg13 arg20 f0 f1 f2 f3 f4 f5 f6 f7 f8 f9 f10 f11 fs = cat2 i B T := by
    delta block_triple.sl.r_21 block_triple.sl.v189
    simp only [cat2, View.readAt_eq_ld, Ev0, Er, Er_1, Er_2, Er_3, Er_7, Er_8, Er_9, Er_10, Er_12, Er_13, Er_14, Er_17, Er_18, Er_19, Er_20]
    try rfl
  have Er_23 : block_triple.sl.r_23 c i arg2 arg3 arg4 arg5 arg6 arg7 arg8 arg9 arg10 arg11 arg12 arg13 arg20 f0 f1 f2 f3 f4 f5 f6 f7 f8 f9 f10 f11 fs = mix2 i B T := by
    delta block_triple.sl.r_23 block_triple.sl.r_22
    simp only [mix2, View.readAt_eq_ld, Ev0, Er, Er_1, Er_2, Er_3, Er_7, Er_8, Er_9, Er_10, Er_12, Er_13, Er_14, Er_17, Er_18, Er_19, Er_20, Er_21]
    try rfl
  have Er_24 : block_triple.sl.r_24 c i arg2 arg3 arg4 arg5 arg6 arg7 arg8 arg9 arg10 arg11 arg12 arg13 arg20 f0 f1 f2 f3 f4 f5 f6 f7 f8 f9 f10 f11 fs = phr2 i B T := by
    delta block_triple.sl.r_24
    simp only [phr2, View.readAt_eq_ld, Ev0, Er, Er_1, Er_2, Er_3, Er_7, Er_8, Er_9, Er_10, Er_12, Er_13, Er_14, Er_17, Er_18, Er_19, Er_20, Er_21, Er_23]
    try rfl
  have Er_26 : block_triple.sl.r_26 c i arg2 arg3 arg4 arg5 arg6 arg7 arg8 arg9 arg10 arg11 arg12 arg13 arg20 f0 f1 f2 f3 f4 f5 f6 f7 f8 f9 f10 f11 fs = upd2 i B T := by
    delta block_triple.sl.r_26 block_triple.sl.r_25
    simp only [upd2, View.readAt_eq_ld, Ev0, Er, Er_1, Er_2, Er_3, Er_7, Er_8, Er_9, Er_10, Er_12, Er_13, Er_14, Er_17, Er_18, Er_19, Er_20, Er_21, Er_23, Er_24]
    try rfl
  have Er_27 : block_triple.sl.r_27 c i arg2 arg3 arg4 arg5 arg6 arg7 arg8 arg9 arg10 arg11 arg12 arg13 arg20 f0 f1 f2 f3 f4 f5 f6 f7 f8 f9 f10 f11 fs = gate2 i B T := by
    delta block_triple.sl.r_27
    simp only [gate2, View.readAt_eq_ld, Ev0, Er, Er_1, Er_2, Er_3, Er_7, Er_8, Er_9, Er_10, Er_12, Er_13, Er_14, Er_17, Er_18, Er_19, Er_20, Er_21, Er_23, Er_24, Er_26]
    try rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (out_cover _)).trans ?_
    delta block_triple.sl.r_30
    simp only [outB, View.readAt_eq_ld, Ev0, Er, Er_1, Er_2, Er_3, Er_7, Er_8, Er_9, Er_10, Er_12, Er_13, Er_14, Er_17, Er_18, Er_19, Er_20, Er_21, Er_23, Er_24, Er_26, Er_27]
    try rfl
  isplitl [H15]
  · iexists _; isplitr
    swap; · iexact H15
    ipureintro
    refine (View.read_writes_eq_canon _ _ _ (one_cover _)).trans ?_
    delta block_triple.sl.r_29
    simp only [salB, View.readAt_eq_ld, Ev0, Er, Er_1, Er_2, Er_3, Er_7, Er_8, Er_9, Er_10, Er_12, Er_13, Er_14, Er_17, Er_18, Er_19, Er_20, Er_21, Er_23, Er_24, Er_26, Er_27]
    try rfl
  isplitl [H16]
  · iexists _; isplitr
    swap; · iexact H16
    ipureintro
    refine (View.read_writes_eq_canon _ _ _ (one_cover _)).trans ?_
    delta block_triple.sl.r_28
    simp only [uncB, View.readAt_eq_ld, Ev0, Er, Er_1, Er_2, Er_3, Er_7, Er_8, Er_9, Er_10, Er_12, Er_13, Er_14, Er_17, Er_18, Er_19, Er_20, Er_21, Er_23, Er_24, Er_26, Er_27]
    try rfl
  isplitl [H17]
  · iexists _; isplitr
    swap; · iexact H17
    ipureintro
    refine (View.read_writes_eq_canon _ _ _ (one_cover _)).trans ?_
    simp only [haltB, View.readAt_eq_ld, Ev0, Er, Er_1, Er_2, Er_3, Er_7, Er_8, Er_9, Er_10, Er_12, Er_13, Er_14, Er_17, Er_18, Er_19, Er_20, Er_21, Er_23, Er_24, Er_26, Er_27]
    try rfl
  iexists _; isplitr
  swap; · iexact HS
  ipureintro
  refine (View.read_writes_eq_canon _ _ _ (tails_cover _ _ _)).trans ?_
  simp only [tailsB, View.readAt_eq_ld, Ev0, Er, Er_1, Er_2, Er_3, Er_7, Er_8, Er_9, Er_10, Er_12, Er_13, Er_14, Er_17, Er_18, Er_19, Er_20, Er_21, Er_23, Er_24, Er_26, Er_27]
  try rfl

end Cert.KernelIdeal.Hand
-- ==== Proof.KernelIdeal.Block.lean ====
module

public import proofs.«01_k».proof.Proof.KernelIdeal.Body

/-! The second kernel call as a pipelined region: the scratch carried from point to point, the contents of every window,
and the obligation the pipeline library asks for. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The part of window `w`'s array staged at a point, read off the contents `V` the region is entered with. -/
def blockBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block whenever the body is called. -/
theorem block_bef_of_0 {c : Dev nD} (dat : Dat τ (Elt F) Unit ℕ (UR sig nD τ) ℕ cfg1 c) (hA : dat.A 0 = V c (Pipeline.arrRef spec1 0))
    (hafter : ∀ t, dat.after 0 t = blockBlk V c 0 t) (t : Fin cfg1.N) (d) : dat.before 0 t d = blockBlk V c 0 t :=
  (dat.before_in_eq_fetched 0 rfl (fun _ => rfl) (fun _ _ _ => rfl) (fun t => by rw [hafter]; unfold Dat.blockOf blockBlk; rw [hA]; try rfl) t d).trans
    (by unfold Dat.fetched Dat.blockOf blockBlk; rw [hA]; try rfl)
/-- Input window 1 holds its block whenever the body is called. -/
theorem block_bef_of_1 {c : Dev nD} (dat : Dat τ (Elt F) Unit ℕ (UR sig nD τ) ℕ cfg1 c) (hA : dat.A 1 = V c (Pipeline.arrRef spec1 1))
    (hafter : ∀ t, dat.after 1 t = blockBlk V c 1 t) (t : Fin cfg1.N) (d) : dat.before 1 t d = blockBlk V c 1 t :=
  (dat.before_in_eq_fetched 1 rfl (fun _ => rfl) (fun _ _ _ => rfl) (fun t => by rw [hafter]; unfold Dat.blockOf blockBlk; rw [hA]; try rfl) t d).trans
    (by unfold Dat.fetched Dat.blockOf blockBlk; rw [hA]; try rfl)
/-- Input window 2 holds its block whenever the body is called. -/
theorem block_bef_of_2 {c : Dev nD} (dat : Dat τ (Elt F) Unit ℕ (UR sig nD τ) ℕ cfg1 c) (hA : dat.A 2 = V c (Pipeline.arrRef spec1 2))
    (hafter : ∀ t, dat.after 2 t = blockBlk V c 2 t) (t : Fin cfg1.N) (d) : dat.before 2 t d = blockBlk V c 2 t :=
  (dat.before_in_eq_fetched 2 rfl (fun _ => rfl) (fun _ _ _ => rfl) (fun t => by rw [hafter]; unfold Dat.blockOf blockBlk; rw [hA]; try rfl) t d).trans
    (by unfold Dat.fetched Dat.blockOf blockBlk; rw [hA]; try rfl)
/-- Input window 3 holds its block whenever the body is called. -/
theorem block_bef_of_3 {c : Dev nD} (dat : Dat τ (Elt F) Unit ℕ (UR sig nD τ) ℕ cfg1 c) (hA : dat.A 3 = V c (Pipeline.arrRef spec1 3))
    (hafter : ∀ t, dat.after 3 t = blockBlk V c 3 t) (t : Fin cfg1.N) (d) : dat.before 3 t d = blockBlk V c 3 t :=
  (dat.before_in_eq_fetched 3 rfl (fun _ => rfl) (fun _ _ _ => rfl) (fun t => by rw [hafter]; unfold Dat.blockOf blockBlk; rw [hA]; try rfl) t d).trans
    (by unfold Dat.fetched Dat.blockOf blockBlk; rw [hA]; try rfl)
/-- Input window 4 holds its block whenever the body is called. -/
theorem block_bef_of_4 {c : Dev nD} (dat : Dat τ (Elt F) Unit ℕ (UR sig nD τ) ℕ cfg1 c) (hA : dat.A 4 = V c (Pipeline.arrRef spec1 4))
    (hafter : ∀ t, dat.after 4 t = blockBlk V c 4 t) (t : Fin cfg1.N) (d) : dat.before 4 t d = blockBlk V c 4 t :=
  (dat.before_in_eq_fetched 4 rfl (fun _ => rfl) (fun _ _ _ => rfl) (fun t => by rw [hafter]; unfold Dat.blockOf blockBlk; rw [hA]; try rfl) t d).trans
    (by unfold Dat.fetched Dat.blockOf blockBlk; rw [hA]; try rfl)
/-- Input window 5 holds its block whenever the body is called. -/
theorem block_bef_of_5 {c : Dev nD} (dat : Dat τ (Elt F) Unit ℕ (UR sig nD τ) ℕ cfg1 c) (hA : dat.A 5 = V c (Pipeline.arrRef spec1 5))
    (hafter : ∀ t, dat.after 5 t = blockBlk V c 5 t) (t : Fin cfg1.N) (d) : dat.before 5 t d = blockBlk V c 5 t :=
  (dat.before_in_eq_fetched 5 rfl (fun _ => rfl) (fun _ _ _ => rfl) (fun t => by rw [hafter]; unfold Dat.blockOf blockBlk; rw [hA]; try rfl) t d).trans
    (by unfold Dat.fetched Dat.blockOf blockBlk; rw [hA]; try rfl)
/-- Input window 6 holds its block whenever the body is called. -/
theorem block_bef_of_6 {c : Dev nD} (dat : Dat τ (Elt F) Unit ℕ (UR sig nD τ) ℕ cfg1 c) (hA : dat.A 6 = V c (Pipeline.arrRef spec1 6))
    (hafter : ∀ t, dat.after 6 t = blockBlk V c 6 t) (t : Fin cfg1.N) (d) : dat.before 6 t d = blockBlk V c 6 t :=
  (dat.before_in_eq_fetched 6 rfl (fun _ => rfl) (fun _ _ _ => rfl) (fun t => by rw [hafter]; unfold Dat.blockOf blockBlk; rw [hA]; try rfl) t d).trans
    (by unfold Dat.fetched Dat.blockOf blockBlk; rw [hA]; try rfl)
/-- Input window 7 holds its block whenever the body is called. -/
theorem block_bef_of_7 {c : Dev nD} (dat : Dat τ (Elt F) Unit ℕ (UR sig nD τ) ℕ cfg1 c) (hA : dat.A 7 = V c (Pipeline.arrRef spec1 7))
    (hafter : ∀ t, dat.after 7 t = blockBlk V c 7 t) (t : Fin cfg1.N) (d) : dat.before 7 t d = blockBlk V c 7 t :=
  (dat.before_in_eq_fetched 7 rfl (fun _ => rfl) (fun _ _ _ => rfl) (fun t => by rw [hafter]; unfold Dat.blockOf blockBlk; rw [hA]; try rfl) t d).trans
    (by unfold Dat.fetched Dat.blockOf blockBlk; rw [hA]; try rfl)
/-- Input window 8 holds its block whenever the body is called. -/
theorem block_bef_of_8 {c : Dev nD} (dat : Dat τ (Elt F) Unit ℕ (UR sig nD τ) ℕ cfg1 c) (hA : dat.A 8 = V c (Pipeline.arrRef spec1 8))
    (hafter : ∀ t, dat.after 8 t = blockBlk V c 8 t) (t : Fin cfg1.N) (d) : dat.before 8 t d = blockBlk V c 8 t :=
  (dat.before_in_eq_fetched 8 rfl (fun _ => rfl) (fun _ _ _ => rfl) (fun t => by rw [hafter]; unfold Dat.blockOf blockBlk; rw [hA]; try rfl) t d).trans
    (by unfold Dat.fetched Dat.blockOf blockBlk; rw [hA]; try rfl)
/-- Input window 9 holds its block whenever the body is called. -/
theorem block_bef_of_9 {c : Dev nD} (dat : Dat τ (Elt F) Unit ℕ (UR sig nD τ) ℕ cfg1 c) (hA : dat.A 9 = V c (Pipeline.arrRef spec1 9))
    (hafter : ∀ t, dat.after 9 t = blockBlk V c 9 t) (t : Fin cfg1.N) (d) : dat.before 9 t d = blockBlk V c 9 t :=
  (dat.before_in_eq_fetched 9 rfl (fun _ => rfl) (fun _ _ _ => rfl) (fun t => by rw [hafter]; unfold Dat.blockOf blockBlk; rw [hA]; try rfl) t d).trans
    (by unfold Dat.fetched Dat.blockOf blockBlk; rw [hA]; try rfl)
/-- Input window 10 holds its block whenever the body is called. -/
theorem block_bef_of_10 {c : Dev nD} (dat : Dat τ (Elt F) Unit ℕ (UR sig nD τ) ℕ cfg1 c) (hA : dat.A 10 = V c (Pipeline.arrRef spec1 10))
    (hafter : ∀ t, dat.after 10 t = blockBlk V c 10 t) (t : Fin cfg1.N) (d) : dat.before 10 t d = blockBlk V c 10 t :=
  (dat.before_in_eq_fetched 10 rfl (fun _ => rfl) (fun _ _ _ => rfl) (fun t => by rw [hafter]; unfold Dat.blockOf blockBlk; rw [hA]; try rfl) t d).trans
    (by unfold Dat.fetched Dat.blockOf blockBlk; rw [hA]; try rfl)
/-- Input window 11 holds its block whenever the body is called. -/
theorem block_bef_of_11 {c : Dev nD} (dat : Dat τ (Elt F) Unit ℕ (UR sig nD τ) ℕ cfg1 c) (hA : dat.A 11 = V c (Pipeline.arrRef spec1 11))
    (hafter : ∀ t, dat.after 11 t = blockBlk V c 11 t) (t : Fin cfg1.N) (d) : dat.before 11 t d = blockBlk V c 11 t :=
  (dat.before_in_eq_fetched 11 rfl (fun _ => rfl) (fun _ _ _ => rfl) (fun t => by rw [hafter]; unfold Dat.blockOf blockBlk; rw [hA]; try rfl) t d).trans
    (by unfold Dat.fetched Dat.blockOf blockBlk; rw [hA]; try rfl)
/-- Input window 12 holds its block whenever the body is called. -/
theorem block_bef_of_12 {c : Dev nD} (dat : Dat τ (Elt F) Unit ℕ (UR sig nD τ) ℕ cfg1 c) (hA : dat.A 12 = V c (Pipeline.arrRef spec1 12))
    (hafter : ∀ t, dat.after 12 t = blockBlk V c 12 t) (t : Fin cfg1.N) (d) : dat.before 12 t d = blockBlk V c 12 t :=
  (dat.before_in_eq_fetched 12 rfl (fun _ => rfl) (fun _ _ _ => rfl) (fun t => by rw [hafter]; unfold Dat.blockOf blockBlk; rw [hA]; try rfl) t d).trans
    (by unfold Dat.fetched Dat.blockOf blockBlk; rw [hA]; try rfl)
/-- Input window 13 holds its block whenever the body is called. -/
theorem block_bef_of_13 {c : Dev nD} (dat : Dat τ (Elt F) Unit ℕ (UR sig nD τ) ℕ cfg1 c) (hA : dat.A 13 = V c (Pipeline.arrRef spec1 13))
    (hafter : ∀ t, dat.after 13 t = blockBlk V c 13 t) (t : Fin cfg1.N) (d) : dat.before 13 t d = blockBlk V c 13 t :=
  (dat.before_in_eq_fetched 13 rfl (fun _ => rfl) (fun _ _ _ => rfl) (fun t => by rw [hafter]; unfold Dat.blockOf blockBlk; rw [hA]; try rfl) t d).trans
    (by unfold Dat.fetched Dat.blockOf blockBlk; rw [hA]; try rfl)

abbrev stg0 (t : Fin cfg1.N) : Memref sig .tc .vmem S1x1024x1024 .f32 := win1_0.stage (cfg1.slots t 0)
abbrev stgWhole0 (t : Fin cfg1.N) : (stg0 t).IsWhole := hstage1_0 ((cfg1.slots t 0).cast nbuf1_0)
abbrev stg1 (t : Fin cfg1.N) : Memref sig .tc .vmem S1024x1024 .bf16 := win1_1.stage (cfg1.slots t 1)
abbrev stgWhole1 (t : Fin cfg1.N) : (stg1 t).IsWhole := hstage1_1 ((cfg1.slots t 1).cast nbuf1_1)
abbrev stg2 (t : Fin cfg1.N) : Memref sig .tc .vmem S1x1024 .f32 := win1_2.stage (cfg1.slots t 2)
abbrev stgWhole2 (t : Fin cfg1.N) : (stg2 t).IsWhole := hstage1_2 ((cfg1.slots t 2).cast nbuf1_2)
abbrev stg3 (t : Fin cfg1.N) : Memref sig .tc .vmem S5x1024 .bf16 := win1_3.stage (cfg1.slots t 3)
abbrev stgWhole3 (t : Fin cfg1.N) : (stg3 t).IsWhole := hstage1_3 ((cfg1.slots t 3).cast nbuf1_3)
abbrev stg4 (t : Fin cfg1.N) : Memref sig .tc .vmem S1x1024 .bf16 := win1_4.stage (cfg1.slots t 4)
abbrev stgWhole4 (t : Fin cfg1.N) : (stg4 t).IsWhole := hstage1_4 ((cfg1.slots t 4).cast nbuf1_4)
abbrev stg5 (t : Fin cfg1.N) : Memref sig .tc .vmem S1024x1024 .bf16 := win1_5.stage (cfg1.slots t 5)
abbrev stgWhole5 (t : Fin cfg1.N) : (stg5 t).IsWhole := hstage1_5 ((cfg1.slots t 5).cast nbuf1_5)
abbrev stg6 (t : Fin cfg1.N) : Memref sig .tc .vmem S1x3 .f32 := win1_6.stage (cfg1.slots t 6)
abbrev stgWhole6 (t : Fin cfg1.N) : (stg6 t).IsWhole := hstage1_6 ((cfg1.slots t 6).cast nbuf1_6)
abbrev stg7 (t : Fin cfg1.N) : Memref sig .tc .vmem S1024x1152 .bf16 := win1_7.stage (cfg1.slots t 7)
abbrev stgWhole7 (t : Fin cfg1.N) : (stg7 t).IsWhole := hstage1_7 ((cfg1.slots t 7).cast nbuf1_7)
abbrev stg8 (t : Fin cfg1.N) : Memref sig .tc .vmem S1024x1024 .bf16 := win1_8.stage (cfg1.slots t 8)
abbrev stgWhole8 (t : Fin cfg1.N) : (stg8 t).IsWhole := hstage1_8 ((cfg1.slots t 8).cast nbuf1_8)
abbrev stg9 (t : Fin cfg1.N) : Memref sig .tc .vmem S1x1024 .f32 := win1_9.stage (cfg1.slots t 9)
abbrev stgWhole9 (t : Fin cfg1.N) : (stg9 t).IsWhole := hstage1_9 ((cfg1.slots t 9).cast nbuf1_9)
abbrev stg10 (t : Fin cfg1.N) : Memref sig .tc .vmem S1024x1024 .bf16 := win1_10.stage (cfg1.slots t 10)
abbrev stgWhole10 (t : Fin cfg1.N) : (stg10 t).IsWhole := hstage1_10 ((cfg1.slots t 10).cast nbuf1_10)
abbrev stg11 (t : Fin cfg1.N) : Memref sig .tc .vmem S1x1024 .f32 := win1_11.stage (cfg1.slots t 11)
abbrev stgWhole11 (t : Fin cfg1.N) : (stg11 t).IsWhole := hstage1_11 ((cfg1.slots t 11).cast nbuf1_11)
abbrev stg12 (t : Fin cfg1.N) : Memref sig .tc .vmem S1024x1024 .bf16 := win1_12.stage (cfg1.slots t 12)
abbrev stgWhole12 (t : Fin cfg1.N) : (stg12 t).IsWhole := hstage1_12 ((cfg1.slots t 12).cast nbuf1_12)
abbrev stg13 (t : Fin cfg1.N) : Memref sig .tc .vmem S1x1024 .f32 := win1_13.stage (cfg1.slots t 13)
abbrev stgWhole13 (t : Fin cfg1.N) : (stg13 t).IsWhole := hstage1_13 ((cfg1.slots t 13).cast nbuf1_13)
abbrev stg14 (t : Fin cfg1.N) : Memref sig .tc .vmem S1x1024x1024 .f32 := win1_14.stage (cfg1.slots t 14)
abbrev stgWhole14 (t : Fin cfg1.N) : (stg14 t).IsWhole := hstage1_14 ((cfg1.slots t 14).cast nbuf1_14)
abbrev stg15 (t : Fin cfg1.N) : Memref sig .tc .vmem S1x1x1x1 .f32 := win1_15.stage (cfg1.slots t 15)
abbrev stgWhole15 (t : Fin cfg1.N) : (stg15 t).IsWhole := hstage1_15 ((cfg1.slots t 15).cast nbuf1_15)
abbrev stg16 (t : Fin cfg1.N) : Memref sig .tc .vmem S1x1x1x1 .f32 := win1_16.stage (cfg1.slots t 16)
abbrev stgWhole16 (t : Fin cfg1.N) : (stg16 t).IsWhole := hstage1_16 ((cfg1.slots t 16).cast nbuf1_16)
abbrev stg17 (t : Fin cfg1.N) : Memref sig .tc .vmem S1x1x1x1 .f32 := win1_17.stage (cfg1.slots t 17)
abbrev stgWhole17 (t : Fin cfg1.N) : (stg17 t).IsWhole := hstage1_17 ((cfg1.slots t 17).cast nbuf1_17)
/-- The scratch carried across the points. -/
abbrev carry : Memref sig .tc .vmem S3x8x1024 .bf16 := Memref.whole cc1_scratch0

/-- The input blocks of point `t`, as the record the stages are functions of. -/
def blkAt (c : Dev nD) (t : Fin cfg1.N) : Blk F := ⟨blockBlk V c 0 t, blockBlk V c 1 t, blockBlk V c 2 t, blockBlk V c 3 t, blockBlk V c 4 t, blockBlk V c 5 t, blockBlk V c 6 t, blockBlk V c 7 t, blockBlk V c 8 t, blockBlk V c 9 t, blockBlk V c 10 t, blockBlk V c 11 t, blockBlk V c 12 t, blockBlk V c 13 t⟩

/-- The scratch's contents before point `n`: what the preceding point left (before the first, anything). -/
def carried (c : Dev nD) : ℕ → Vec F S3x8x1024 .bf16
  | 0 => broadcast S3x8x1024 (FloatOps.ofBits .bf16 0#16)
  | n + 1 => if h : n < cfg1.N then tailsB (grid1.coords ⟨n, h⟩) (blkAt V c ⟨n, h⟩) (carried c n) else broadcast S3x8x1024 (FloatOps.ofBits .bf16 0#16)

/-- The region's invariant before point `k`: the scoped buffers that stage nothing here and the generator register are held
    at anything, the scratch at what the preceding point left (before the first point, at anything). -/
def blockInv (c : Dev nD) (k : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f)) ∗ (∃ d, ⌜k = 0 ∨ d = carried V c k⌝ ∗ owns (c : Thread nD τ) carry fullShare d) ∗ (∃ r, prngReg c r))

/-- The class invariant opens to the region's before the first point. -/
theorem inv_start (c : Dev nD) : (Pipeline.ΦA spec1 c : sProp 𝕄) ⊢ blockInv V c 0 := by
  unfold Pipeline.ΦA blockInv; rw [scopedRest1_eq]; simp only [carry, owns_whole]
  iintro ⟨⟨HR0, HR1, HR2, HR3, HR4, HR5, HR6, HR7, HR8, HR9, HR10, HR11, HR12, HR13, HR14, HS⟩, Hg⟩
  isplitl [HR0 HR1 HR2 HR3 HR4 HR5 HR6 HR7 HR8 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  isplitl [HS]
  · icases HS with ⟨%f, HS⟩
    iexists f; isplitr; · ipureintro; simp
    iexact HS
  iexact Hg

/-- The region's invariant after the last point closes to the class invariant. -/
theorem inv_stop (c : Dev nD) (k : ℕ) : blockInv V c k ⊢ (Pipeline.ΦA spec1 c : sProp 𝕄) := by
  unfold Pipeline.ΦA blockInv; rw [scopedRest1_eq]; simp only [carry, owns_whole]
  iintro ⟨⟨HR0, HR1, HR2, HR3, HR4, HR5, HR6, HR7, HR8, HR9, HR10, HR11, HR12, HR13, HR14⟩, HS, Hg⟩
  icases HS with ⟨%f, -, HS⟩
  isplitl [HR0 HR1 HR2 HR3 HR4 HR5 HR6 HR7 HR8 HR9 HR10 HR11 HR12 HR13 HR14 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexists f; iexact HS
  iexact Hg

/-- At the first block of a sequence the stages do not look at the scratch. -/
theorem first_any (i : grid1.Coords) (h : isFirst i = 1#1) (b : Blk F) (s s' : Vec F S3x8x1024 .bf16) :
    outB i b s = outB i b s' ∧ salB i b s = salB i b s' ∧ uncB i b s = uncB i b s' ∧ haltB i b s = haltB i b s'
      ∧ tailsB i b s = tailsB i b s' := by
  have h' : Scalar.cmpi .eq (BitVec.ofNat 32 (i 1).val) 0#32 = 1#1 := h
  have c0 : cat0 i b s = cat0 i b s' := by
    unfold cat0 k1_pay6
    exact congrArg (fun v : Vec F S8x1024 .bf16 => concatenate S1028x1024 0 [⟨S4x1024, extractStridedSlice S4x1024 ![4, 0] v slices_S8x1024_o4_0_S4x1024⟩, ⟨S1024x1024, _⟩] concatenates_S4x1024_S1024x1024_S1028x1024_d0) ((if_pos h).trans (if_pos h).symm)
  have m0 : mix0 i b s = mix0 i b s' := by
    simp only [mix0, c0]; simp only [k1_pay7, k1_pay8]; simp only [cat0] at c0; rw [c0]
  have h1 : hid1 i b s = hid1 i b s' := by simp only [hid1, m0]
  have l1 : low1 i b s = low1 i b s' := by simp only [low1, m0]
  have c1 : cat1 i b s = cat1 i b s' := by
    unfold cat1; simp only [m0]; unfold k1_pay17
    exact congrArg (fun v : Vec F S8x1024 .bf16 => concatenate S1028x1024 0 [⟨S4x1024, extractStridedSlice S4x1024 ![4, 0] v slices_S8x1024_o4_0_S4x1024⟩, ⟨S1024x1024, _⟩] concatenates_S4x1024_S1024x1024_S1028x1024_d0) ((if_pos h).trans (if_pos h).symm)
  have m1 : mix1 i b s = mix1 i b s' := by
    simp only [mix1, c1]; simp only [k1_pay19]; simp only [cat1] at c1; rw [c1]
  have p1 : phr1 i b s = phr1 i b s' := by simp only [phr1, l1]
  have h2 : hid2 i b s = hid2 i b s' := by simp only [hid2, h1, l1, m1, p1]
  have l2 : low2 i b s = low2 i b s' := by simp only [low2, h1, l1, m1, p1]
  have c2 : cat2 i b s = cat2 i b s' := by
    unfold cat2; simp only [h1, l1, m1, p1]; unfold k1_pay25
    exact congrArg (fun v : Vec F S8x1024 .bf16 => concatenate S1028x1024 0 [⟨S4x1024, extractStridedSlice S4x1024 ![4, 0] v slices_S8x1024_o4_0_S4x1024⟩, ⟨S1024x1024, _⟩] concatenates_S4x1024_S1024x1024_S1028x1024_d0) ((if_pos h).trans (if_pos h).symm)
  have m2 : mix2 i b s = mix2 i b s' := by simp only [mix2, c2]
  have p2 : phr2 i b s = phr2 i b s' := by simp only [phr2, l2]
  have u2 : upd2 i b s = upd2 i b s' := by simp only [upd2, l2, m2, p2]
  have g2 : gate2 i b s = gate2 i b s' := by simp only [gate2, l2]
  refine ⟨?_, ?_, ?_, ?_, ?_⟩
  · simp only [outB, h2, u2, g2]
  · simp only [salB, l2]
  · simp only [uncB, l2]
  · simp only [haltB, g2]
  · simp only [tailsB, h1, l1, m1, p1, m0]

/-- The grid's first point is the first block of a sequence. -/
theorem first_point (t : Fin cfg1.N) (h : t.val = 0) : isFirst (grid1.coords t) = 1#1 := by
  obtain rfl : t = ⟨0, by decide⟩ := Fin.ext h; decide

/-- The proof data of the second call's region: inputs keep their blocks; outputs end at the stages of the block, of the
    scratch as carried there; nothing is owed. -/
def blockDat (c : Dev nD) : Dat τ (Elt F) Unit ℕ (UR sig nD τ) ℕ cfg1 c where
  A w := V c (Pipeline.arrRef spec1 w)
  after w t := match w with
    | ⟨0, _⟩ => blockBlk V c 0 t
    | ⟨1, _⟩ => blockBlk V c 1 t
    | ⟨2, _⟩ => blockBlk V c 2 t
    | ⟨3, _⟩ => blockBlk V c 3 t
    | ⟨4, _⟩ => blockBlk V c 4 t
    | ⟨5, _⟩ => blockBlk V c 5 t
    | ⟨6, _⟩ => blockBlk V c 6 t
    | ⟨7, _⟩ => blockBlk V c 7 t
    | ⟨8, _⟩ => blockBlk V c 8 t
    | ⟨9, _⟩ => blockBlk V c 9 t
    | ⟨10, _⟩ => blockBlk V c 10 t
    | ⟨11, _⟩ => blockBlk V c 11 t
    | ⟨12, _⟩ => blockBlk V c 12 t
    | ⟨13, _⟩ => blockBlk V c 13 t
    | ⟨14, _⟩ => View.canon [⟨rX, outB (grid1.coords t) (blkAt V c t) (carried V c t.val)⟩]
    | ⟨15, _⟩ => View.canon [⟨rOne, salB (grid1.coords t) (blkAt V c t) (carried V c t.val)⟩]
    | ⟨16, _⟩ => View.canon [⟨rOne, uncB (grid1.coords t) (blkAt V c t) (carried V c t.val)⟩]
    | ⟨17, _⟩ => View.canon [⟨rOne, haltB (grid1.coords t) (blkAt V c t) (carried V c t.val)⟩]
    | ⟨_ + 18, h⟩ => absurd h (Nat.not_lt.2 (Nat.le_add_left _ _))
  Φ k := blockInv V c k.val
  q _ := fullShare
  owed _ := 0

/-- The proof data starts from the entry contents. -/
theorem block_A (c : Dev nD) (w : Fin cfg1.W) : (blockDat V c).A w = V c (Pipeline.arrRef spec1 w) := by
  dsimp only [blockDat]

/-- The contents the proof data names for window 0 after the body. -/
theorem block_after_0 (c : Dev nD) (t : Fin cfg1.N) : (blockDat V c).after 0 t = blockBlk V c 0 t := by dsimp only [blockDat]
/-- The contents the proof data names for window 1 after the body. -/
theorem block_after_1 (c : Dev nD) (t : Fin cfg1.N) : (blockDat V c).after 1 t = blockBlk V c 1 t := by dsimp only [blockDat]
/-- The contents the proof data names for window 2 after the body. -/
theorem block_after_2 (c : Dev nD) (t : Fin cfg1.N) : (blockDat V c).after 2 t = blockBlk V c 2 t := by dsimp only [blockDat]
/-- The contents the proof data names for window 3 after the body. -/
theorem block_after_3 (c : Dev nD) (t : Fin cfg1.N) : (blockDat V c).after 3 t = blockBlk V c 3 t := by dsimp only [blockDat]
/-- The contents the proof data names for window 4 after the body. -/
theorem block_after_4 (c : Dev nD) (t : Fin cfg1.N) : (blockDat V c).after 4 t = blockBlk V c 4 t := by dsimp only [blockDat]
/-- The contents the proof data names for window 5 after the body. -/
theorem block_after_5 (c : Dev nD) (t : Fin cfg1.N) : (blockDat V c).after 5 t = blockBlk V c 5 t := by dsimp only [blockDat]
/-- The contents the proof data names for window 6 after the body. -/
theorem block_after_6 (c : Dev nD) (t : Fin cfg1.N) : (blockDat V c).after 6 t = blockBlk V c 6 t := by dsimp only [blockDat]
/-- The contents the proof data names for window 7 after the body. -/
theorem block_after_7 (c : Dev nD) (t : Fin cfg1.N) : (blockDat V c).after 7 t = blockBlk V c 7 t := by dsimp only [blockDat]
/-- The contents the proof data names for window 8 after the body. -/
theorem block_after_8 (c : Dev nD) (t : Fin cfg1.N) : (blockDat V c).after 8 t = blockBlk V c 8 t := by dsimp only [blockDat]
/-- The contents the proof data names for window 9 after the body. -/
theorem block_after_9 (c : Dev nD) (t : Fin cfg1.N) : (blockDat V c).after 9 t = blockBlk V c 9 t := by dsimp only [blockDat]
/-- The contents the proof data names for window 10 after the body. -/
theorem block_after_10 (c : Dev nD) (t : Fin cfg1.N) : (blockDat V c).after 10 t = blockBlk V c 10 t := by dsimp only [blockDat]
/-- The contents the proof data names for window 11 after the body. -/
theorem block_after_11 (c : Dev nD) (t : Fin cfg1.N) : (blockDat V c).after 11 t = blockBlk V c 11 t := by dsimp only [blockDat]
/-- The contents the proof data names for window 12 after the body. -/
theorem block_after_12 (c : Dev nD) (t : Fin cfg1.N) : (blockDat V c).after 12 t = blockBlk V c 12 t := by dsimp only [blockDat]
/-- The contents the proof data names for window 13 after the body. -/
theorem block_after_13 (c : Dev nD) (t : Fin cfg1.N) : (blockDat V c).after 13 t = blockBlk V c 13 t := by dsimp only [blockDat]
/-- The contents the proof data names for window 14 after the body. -/
theorem block_after_14 (c : Dev nD) (t : Fin cfg1.N) : (blockDat V c).after 14 t = View.canon [⟨rX, outB (grid1.coords t) (blkAt V c t) (carried V c t.val)⟩] := by dsimp only [blockDat]
/-- The contents the proof data names for window 15 after the body. -/
theorem block_after_15 (c : Dev nD) (t : Fin cfg1.N) : (blockDat V c).after 15 t = View.canon [⟨rOne, salB (grid1.coords t) (blkAt V c t) (carried V c t.val)⟩] := by dsimp only [blockDat]
/-- The contents the proof data names for window 16 after the body. -/
theorem block_after_16 (c : Dev nD) (t : Fin cfg1.N) : (blockDat V c).after 16 t = View.canon [⟨rOne, uncB (grid1.coords t) (blkAt V c t) (carried V c t.val)⟩] := by dsimp only [blockDat]
/-- The contents the proof data names for window 17 after the body. -/
theorem block_after_17 (c : Dev nD) (t : Fin cfg1.N) : (blockDat V c).after 17 t = View.canon [⟨rOne, haltB (grid1.coords t) (blkAt V c t) (carried V c t.val)⟩] := by dsimp only [blockDat]

/-- The contents the body finds in window 0. -/
theorem block_bef_0 (c : Dev nD) (t : Fin cfg1.N) (d) : (blockDat V c).before 0 t d = blockBlk V c 0 t :=
  block_bef_of_0 V (blockDat V c) (block_A V c 0) (block_after_0 V c) t d
/-- The contents the body finds in window 1. -/
theorem block_bef_1 (c : Dev nD) (t : Fin cfg1.N) (d) : (blockDat V c).before 1 t d = blockBlk V c 1 t :=
  block_bef_of_1 V (blockDat V c) (block_A V c 1) (block_after_1 V c) t d
/-- The contents the body finds in window 2. -/
theorem block_bef_2 (c : Dev nD) (t : Fin cfg1.N) (d) : (blockDat V c).before 2 t d = blockBlk V c 2 t :=
  block_bef_of_2 V (blockDat V c) (block_A V c 2) (block_after_2 V c) t d
/-- The contents the body finds in window 3. -/
theorem block_bef_3 (c : Dev nD) (t : Fin cfg1.N) (d) : (blockDat V c).before 3 t d = blockBlk V c 3 t :=
  block_bef_of_3 V (blockDat V c) (block_A V c 3) (block_after_3 V c) t d
/-- The contents the body finds in window 4. -/
theorem block_bef_4 (c : Dev nD) (t : Fin cfg1.N) (d) : (blockDat V c).before 4 t d = blockBlk V c 4 t :=
  block_bef_of_4 V (blockDat V c) (block_A V c 4) (block_after_4 V c) t d
/-- The contents the body finds in window 5. -/
theorem block_bef_5 (c : Dev nD) (t : Fin cfg1.N) (d) : (blockDat V c).before 5 t d = blockBlk V c 5 t :=
  block_bef_of_5 V (blockDat V c) (block_A V c 5) (block_after_5 V c) t d
/-- The contents the body finds in window 6. -/
theorem block_bef_6 (c : Dev nD) (t : Fin cfg1.N) (d) : (blockDat V c).before 6 t d = blockBlk V c 6 t :=
  block_bef_of_6 V (blockDat V c) (block_A V c 6) (block_after_6 V c) t d
/-- The contents the body finds in window 7. -/
theorem block_bef_7 (c : Dev nD) (t : Fin cfg1.N) (d) : (blockDat V c).before 7 t d = blockBlk V c 7 t :=
  block_bef_of_7 V (blockDat V c) (block_A V c 7) (block_after_7 V c) t d
/-- The contents the body finds in window 8. -/
theorem block_bef_8 (c : Dev nD) (t : Fin cfg1.N) (d) : (blockDat V c).before 8 t d = blockBlk V c 8 t :=
  block_bef_of_8 V (blockDat V c) (block_A V c 8) (block_after_8 V c) t d
/-- The contents the body finds in window 9. -/
theorem block_bef_9 (c : Dev nD) (t : Fin cfg1.N) (d) : (blockDat V c).before 9 t d = blockBlk V c 9 t :=
  block_bef_of_9 V (blockDat V c) (block_A V c 9) (block_after_9 V c) t d
/-- The contents the body finds in window 10. -/
theorem block_bef_10 (c : Dev nD) (t : Fin cfg1.N) (d) : (blockDat V c).before 10 t d = blockBlk V c 10 t :=
  block_bef_of_10 V (blockDat V c) (block_A V c 10) (block_after_10 V c) t d
/-- The contents the body finds in window 11. -/
theorem block_bef_11 (c : Dev nD) (t : Fin cfg1.N) (d) : (blockDat V c).before 11 t d = blockBlk V c 11 t :=
  block_bef_of_11 V (blockDat V c) (block_A V c 11) (block_after_11 V c) t d
/-- The contents the body finds in window 12. -/
theorem block_bef_12 (c : Dev nD) (t : Fin cfg1.N) (d) : (blockDat V c).before 12 t d = blockBlk V c 12 t :=
  block_bef_of_12 V (blockDat V c) (block_A V c 12) (block_after_12 V c) t d
/-- The contents the body finds in window 13. -/
theorem block_bef_13 (c : Dev nD) (t : Fin cfg1.N) (d) : (blockDat V c).before 13 t d = blockBlk V c 13 t :=
  block_bef_of_13 V (blockDat V c) (block_A V c 13) (block_after_13 V c) t d
/-- What the body is handed at a point, window by window. -/
def blockPre (c : Dev nD) (t : Fin cfg1.N) : sProp 𝕄 :=
  iprop((blockDat V c).Φ t.castSucc ∗ (blockDat V c).owesAt () t.castSucc
    ∗ (∃ d, owns (c : Thread nD τ) (stg0 t) fullShare ((blockDat V c).before 0 t d))
    ∗ (∃ d, owns (c : Thread nD τ) (stg1 t) fullShare ((blockDat V c).before 1 t d))
    ∗ (∃ d, owns (c : Thread nD τ) (stg2 t) fullShare ((blockDat V c).before 2 t d))
    ∗ (∃ d, owns (c : Thread nD τ) (stg3 t) fullShare ((blockDat V c).before 3 t d))
    ∗ (∃ d, owns (c : Thread nD τ) (stg4 t) fullShare ((blockDat V c).before 4 t d))
    ∗ (∃ d, owns (c : Thread nD τ) (stg5 t) fullShare ((blockDat V c).before 5 t d))
    ∗ (∃ d, owns (c : Thread nD τ) (stg6 t) fullShare ((blockDat V c).before 6 t d))
    ∗ (∃ d, owns (c : Thread nD τ) (stg7 t) fullShare ((blockDat V c).before 7 t d))
    ∗ (∃ d, owns (c : Thread nD τ) (stg8 t) fullShare ((blockDat V c).before 8 t d))
    ∗ (∃ d, owns (c : Thread nD τ) (stg9 t) fullShare ((blockDat V c).before 9 t d))
    ∗ (∃ d, owns (c : Thread nD τ) (stg10 t) fullShare ((blockDat V c).before 10 t d))
    ∗ (∃ d, owns (c : Thread nD τ) (stg11 t) fullShare ((blockDat V c).before 11 t d))
    ∗ (∃ d, owns (c : Thread nD τ) (stg12 t) fullShare ((blockDat V c).before 12 t d))
    ∗ (∃ d, owns (c : Thread nD τ) (stg13 t) fullShare ((blockDat V c).before 13 t d))
    ∗ (∃ d, owns (c : Thread nD τ) (stg14 t) fullShare ((blockDat V c).before 14 t d))
    ∗ (∃ d, owns (c : Thread nD τ) (stg15 t) fullShare ((blockDat V c).before 15 t d))
    ∗ (∃ d, owns (c : Thread nD τ) (stg16 t) fullShare ((blockDat V c).before 16 t d))
    ∗ (∃ d, owns (c : Thread nD τ) (stg17 t) fullShare ((blockDat V c).before 17 t d)))

/-- What the body hands back. -/
def blockPost (c : Dev nD) (t : Fin cfg1.N) : sProp 𝕄 :=
  iprop((blockDat V c).Φ t.succ ∗ (blockDat V c).owesAt () t.succ
    ∗ owns (c : Thread nD τ) (stg0 t) fullShare ((blockDat V c).after 0 t)
    ∗ owns (c : Thread nD τ) (stg1 t) fullShare ((blockDat V c).after 1 t)
    ∗ owns (c : Thread nD τ) (stg2 t) fullShare ((blockDat V c).after 2 t)
    ∗ owns (c : Thread nD τ) (stg3 t) fullShare ((blockDat V c).after 3 t)
    ∗ owns (c : Thread nD τ) (stg4 t) fullShare ((blockDat V c).after 4 t)
    ∗ owns (c : Thread nD τ) (stg5 t) fullShare ((blockDat V c).after 5 t)
    ∗ owns (c : Thread nD τ) (stg6 t) fullShare ((blockDat V c).after 6 t)
    ∗ owns (c : Thread nD τ) (stg7 t) fullShare ((blockDat V c).after 7 t)
    ∗ owns (c : Thread nD τ) (stg8 t) fullShare ((blockDat V c).after 8 t)
    ∗ owns (c : Thread nD τ) (stg9 t) fullShare ((blockDat V c).after 9 t)
    ∗ owns (c : Thread nD τ) (stg10 t) fullShare ((blockDat V c).after 10 t)
    ∗ owns (c : Thread nD τ) (stg11 t) fullShare ((blockDat V c).after 11 t)
    ∗ owns (c : Thread nD τ) (stg12 t) fullShare ((blockDat V c).after 12 t)
    ∗ owns (c : Thread nD τ) (stg13 t) fullShare ((blockDat V c).after 13 t)
    ∗ owns (c : Thread nD τ) (stg14 t) fullShare ((blockDat V c).after 14 t)
    ∗ owns (c : Thread nD τ) (stg15 t) fullShare ((blockDat V c).after 15 t)
    ∗ owns (c : Thread nD τ) (stg16 t) fullShare ((blockDat V c).after 16 t)
    ∗ owns (c : Thread nD τ) (stg17 t) fullShare ((blockDat V c).after 17 t))

set_option maxHeartbeats 1600000 in
/-- The body at any point, from its triple: at the first point the scratch may hold anything, later it holds what was carried. -/
theorem block_body (c : Dev nD) (t : Fin cfg1.N) :
    blockPre V c t ⊢ wp frame (wpE (defs₀ (F := F)) Variants.none c none) Set.univ (bodyAt1 t) (fun _ => blockPost V c t) := by
  unfold blockPre blockPost bodyAt1
  simp only [block_bef_0, block_bef_1, block_bef_2, block_bef_3, block_bef_4, block_bef_5, block_bef_6, block_bef_7, block_bef_8, block_bef_9, block_bef_10, block_bef_11, block_bef_12, block_bef_13]
  rw [show (blockDat V c).Φ t.succ = blockInv V c (t.val + 1) from rfl, show (blockDat V c).Φ t.castSucc = blockInv V c t.val from rfl,
    show (blockDat V c).owesAt () t.succ = (blockDat V c).owesAt () t.castSucc from rfl,
    block_after_0, block_after_1, block_after_2, block_after_3, block_after_4, block_after_5, block_after_6, block_after_7, block_after_8, block_after_9, block_after_10, block_after_11, block_after_12, block_after_13, block_after_14, block_after_15, block_after_16, block_after_17]
  have hc : carried V c (t.val + 1) = tailsB (grid1.coords t) (blkAt V c t) (carried V c t.val) := by
    rw [carried, dif_pos t.isLt]
  unfold blockInv
  iintro ⟨⟨HR, ⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have key : outB (grid1.coords t) (blkAt V c t) (carried V c t.val) = outB (grid1.coords t) (blkAt V c t) s
      ∧ salB (grid1.coords t) (blkAt V c t) (carried V c t.val) = salB (grid1.coords t) (blkAt V c t) s
      ∧ uncB (grid1.coords t) (blkAt V c t) (carried V c t.val) = uncB (grid1.coords t) (blkAt V c t) s
      ∧ haltB (grid1.coords t) (blkAt V c t) (carried V c t.val) = haltB (grid1.coords t) (blkAt V c t) s
      ∧ tailsB (grid1.coords t) (blkAt V c t) (carried V c t.val) = tailsB (grid1.coords t) (blkAt V c t) s := by
    rcases hs with h | h
    · exact first_any _ (first_point t h) _ _ _
    · rw [h]; exact ⟨rfl, rfl, rfl, rfl, rfl⟩
  rw [hc, key.1, key.2.1, key.2.2.1, key.2.2.2.1, key.2.2.2.2]
  iapply (block_triple c Set.univ (grid1.coords t) _ _ _ _ _ _ _ _ _ _ _ _ _ _ _ _ _ _ _ _ _ _ _ _ _ _ _ _ _ _ _ _ _ _ _ _ _ _ (blkAt V c t) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [HS]; · iexact HS
  iintro ⟨H0, H1, H2, H3, H4, H5, H6, H7, H8, H9, H10, H11, H12, H13, H14, H15, H16, H17, HS⟩
  isplitl [HR HS Hg]
  · isplitl [HR]; · iexact HR
    isplitl [HS]
    · iexists _; isplitr; · ipureintro; exact Or.inr rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The table row of the body is the body itself. -/
theorem block_row (t : Fin cfg1.N) :
    defs₀ (F := F) .tc cfg1.body (cfg1.bodyArgs t (cfg1.slots t)) = bodyAt1 t := by
  unfold defs₀; rw [Defs.onTc_tc]

/-- The obligation the pipeline library asks of the body. -/
theorem block_obligation (c : Dev nD) : BodyObligation (blockDat (F := F) V c) (defs₀ (F := F)) Variants.none () Set.univ := fun t => by
  rw [bigSep_W1, bigSep_W1, block_row]
  exact triple_restated (block_body V c t) rfl .rfl fun _ => .rfl

end Regions

end Cert.KernelIdeal.Hand
-- ==== Proof.KernelIdeal.Run.lean ====
module

public import proofs.«01_k».proof.Proof.KernelIdeal.Prep
public import proofs.«01_k».proof.Proof.KernelIdeal.Block
public import Idealize.ShloMosaic.Lib.Pipeline.RegionsLoop
public import Idealize.ShloMosaic.Lib.Pipeline.FrameSuffix
public import Idealize.ShloMosaic.Lib.Ring

/-! The launch: host stretches and the two regions in order, the buffers at every boundary, and the run as a whole. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays of the launch. -/
abbrev args : List (Ref sig .tc) := [main_arg0, main_arg1, main_arg2, main_arg3, main_arg4, main_arg5, main_arg6, main_arg7, main_arg8, main_arg9, main_arg10, main_arg11, main_arg12, main_arg13, main_arg14]

/-- The stretch allocates nothing. -/
theorem host0_fresh : (hostOps0 : List (HloOp τ sig (Elt F))).Forall fun op => op.fresh = ∅ := by
  simp only [List.Forall]; repeat' constructor
/-- The references the stretch writes. -/
abbrev host0_W : List (Ref sig .tc) := [main_v0, main_v1, main_v2, main_v3, main_v4, main_v5]
/-- The stretch writes the listed references only. -/
theorem host0_writes : (hostOps0 : List (HloOp τ sig (Elt F))).Forall fun op => op.writes ⊆ (host0_W.map (Proc.devRef (τ := τ) .tc)).toFinset :=
  StableHlo.forall_writes_sub_of_map rfl
/-- The stretch writes no argument. -/
theorem host0_args : ∀ a ∈ args, a ∉ host0_W := ListAll.forall_mem_of_all_decide (by decide +kernel)

/-- The stretch allocates nothing. -/
theorem host1_fresh : (hostOps1 : List (HloOp τ sig (Elt F))).Forall fun op => op.fresh = ∅ := by
  simp only [List.Forall]; repeat' constructor
/-- The references the stretch writes. -/
abbrev host1_W : List (Ref sig .tc) := [main_v7, main_v8, main_v9, main_v10]
/-- The stretch writes the listed references only. -/
theorem host1_writes : (hostOps1 : List (HloOp τ sig (Elt F))).Forall fun op => op.writes ⊆ (host1_W.map (Proc.devRef (τ := τ) .tc)).toFinset :=
  StableHlo.forall_writes_sub_of_map rfl
/-- The stretch writes no argument. -/
theorem host1_args : ∀ a ∈ args, a ∉ host1_W := ListAll.forall_mem_of_all_decide (by decide +kernel)

/-- The stretch allocates nothing. -/
theorem host2_fresh : (hostOps2 : List (HloOp τ sig (Elt F))).Forall fun op => op.fresh = ∅ := by
  simp only [List.Forall]; repeat' constructor
/-- The references the stretch writes. -/
abbrev host2_W : List (Ref sig .tc) := [main_cst, main_v12, main_cst_0, main_v13, main_cst_1, main_v14, main_cst_2, main_v15, main_cst_3, main_v16, main_cst_4, main_v17]
/-- The stretch writes the listed references only. -/
theorem host2_writes : (hostOps2 : List (HloOp τ sig (Elt F))).Forall fun op => op.writes ⊆ (host2_W.map (Proc.devRef (τ := τ) .tc)).toFinset :=
  StableHlo.forall_writes_sub_of_map rfl
/-- The stretch writes no argument. -/
theorem host2_args : ∀ a ∈ args, a ∉ host2_W := ListAll.forall_mem_of_all_decide (by decide +kernel)

/-- Core `c`'s buffers at launch. -/
abbrev W0 : Dev nD → Valuation τ sig (Elt F) := fun c b => (s₀ m ρ).mem ((c : Dev nD), b)
/-- Up to here every argument is as launched. -/
theorem W0_args (c : Dev nD) : ∀ a ∈ args, W0 m ρ c (Proc.devRef .tc a) = m ((c : Thread nD τ).loc a) := fun _ _ => rfl
/-- The buffers after the first host stretch. -/
abbrev W1 : Dev nD → Valuation τ sig (Elt F) := fun c => StableHlo.after hostOps0 (W0 m ρ c)
/-- A reference the stretch does not write is kept. -/
theorem W1_of (c : Dev nD) (r : Ref sig .tc) (h : r ∉ host0_W) : W1 m ρ c (Proc.devRef .tc r) = W0 m ρ c (Proc.devRef .tc r) :=
  StableHlo.after_of_writes_sub hostOps0 _ host0_writes h
/-- Up to here every argument is as launched. -/
theorem W1_args (c : Dev nD) : ∀ a ∈ args, W1 m ρ c (Proc.devRef .tc a) = m ((c : Thread nD τ).loc a) :=
  fun a ha => (W1_of m ρ c a (host0_args a ha)).trans (W0_args m ρ c a ha)
/-- The contents region 0 is entered with. -/
abbrev V1 : (c : Dev nD) → (b : Ref sig .tc) → Buf (Elt F) ((c : Thread nD τ).loc b) := fun c b => W1 m ρ c b
/-- The buffers after region 0: its arrays as the write-backs left them, all others untouched. -/
def W2 (c : Dev nD) : Valuation τ sig (Elt F) :=
  Pipeline.withArrays spec0 c (W1 m ρ c) fun w => (prepDat (V1 m ρ) c).arrAt w cfg0.N
/-- The region's arrays hold what the pipeline leaves. -/
theorem W2_arr (c : Dev nD) (w : Fin cfg0.W) :
    W2 m ρ c (Proc.devRef .tc (Pipeline.arrRef spec0 w)) = (prepDat (V1 m ρ) c).arrAt w cfg0.N := by
  unfold W2; exact Pipeline.withArrays_arr spec0 launch0.win.arr_inj c _ _ w
/-- A reference which is none of the region's arrays is kept. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference which is no output array of the region is kept. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((prepDat (V1 m ρ) c).arrAt_in w (h w rfl) _).trans (prep_A (V1 m ρ) c w))
  · exact W2_of_ne m ρ c r fun w e => hw ⟨w, e⟩
/-- An argument among the region's arrays is an input. -/
theorem args_in0 : ∀ a ∈ args, ∀ w : Fin cfg0.W, Pipeline.arrRef spec0 w = a → (cfg0.win w).isOut = false :=
  ListAll.forall_mem_of_all_decide (by decide +kernel)
/-- Up to here every argument is as launched. -/
theorem W2_args (c : Dev nD) : ∀ a ∈ args, W2 m ρ c (Proc.devRef .tc a) = m ((c : Thread nD τ).loc a) :=
  fun a ha => (W2_of m ρ c a (args_in0 a ha)).trans (W1_args m ρ c a ha)
/-- The contents region 0 is left with. -/
abbrev V2 : (c : Dev nD) → (b : Ref sig .tc) → Buf (Elt F) ((c : Thread nD τ).loc b) := fun c b => W2 m ρ c b
/-- The region's arrays end as the pipeline leaves them. -/
theorem left0 (c : Dev nD) (w : Fin cfg0.W) : (prepDat (V1 m ρ) c).arrAt w cfg0.N = V2 m ρ c (Pipeline.arrRef spec0 w) :=
  (W2_arr m ρ c w).symm
/-- The other buffers are kept. -/
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the second host stretch. -/
abbrev W3 : Dev nD → Valuation τ sig (Elt F) := fun c => StableHlo.after hostOps1 (W2 m ρ c)
/-- A reference the stretch does not write is kept. -/
theorem W3_of (c : Dev nD) (r : Ref sig .tc) (h : r ∉ host1_W) : W3 m ρ c (Proc.devRef .tc r) = W2 m ρ c (Proc.devRef .tc r) :=
  StableHlo.after_of_writes_sub hostOps1 _ host1_writes h
/-- Up to here every argument is as launched. -/
theorem W3_args (c : Dev nD) : ∀ a ∈ args, W3 m ρ c (Proc.devRef .tc a) = m ((c : Thread nD τ).loc a) :=
  fun a ha => (W3_of m ρ c a (host1_args a ha)).trans (W2_args m ρ c a ha)
/-- The contents region 1 is entered with. -/
abbrev V3 : (c : Dev nD) → (b : Ref sig .tc) → Buf (Elt F) ((c : Thread nD τ).loc b) := fun c b => W3 m ρ c b
/-- The buffers after region 1. -/
def W4 (c : Dev nD) : Valuation τ sig (Elt F) :=
  Pipeline.withArrays spec1 c (W3 m ρ c) fun w => (blockDat (V3 m ρ) c).arrAt w cfg1.N
/-- The region's arrays hold what the pipeline leaves. -/
theorem W4_arr (c : Dev nD) (w : Fin cfg1.W) :
    W4 m ρ c (Proc.devRef .tc (Pipeline.arrRef spec1 w)) = (blockDat (V3 m ρ) c).arrAt w cfg1.N := by
  unfold W4; exact Pipeline.withArrays_arr spec1 launch1.win.arr_inj c _ _ w
/-- A reference which is none of the region's arrays is kept. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference which is no output array of the region is kept. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((blockDat (V3 m ρ) c).arrAt_in w (h w rfl) _).trans (block_A (V3 m ρ) c w))
  · exact W4_of_ne m ρ c r fun w e => hw ⟨w, e⟩
/-- An argument among the region's arrays is an input. -/
theorem args_in1 : ∀ a ∈ args, ∀ w : Fin cfg1.W, Pipeline.arrRef spec1 w = a → (cfg1.win w).isOut = false :=
  ListAll.forall_mem_of_all_decide (by decide +kernel)
/-- Up to here every argument is as launched. -/
theorem W4_args (c : Dev nD) : ∀ a ∈ args, W4 m ρ c (Proc.devRef .tc a) = m ((c : Thread nD τ).loc a) :=
  fun a ha => (W4_of m ρ c a (args_in1 a ha)).trans (W3_args m ρ c a ha)
/-- The contents region 1 is left with. -/
abbrev V4 : (c : Dev nD) → (b : Ref sig .tc) → Buf (Elt F) ((c : Thread nD τ).loc b) := fun c b => W4 m ρ c b
/-- The region's arrays end as the pipeline leaves them. -/
theorem left1 (c : Dev nD) (w : Fin cfg1.W) : (blockDat (V3 m ρ) c).arrAt w cfg1.N = V4 m ρ c (Pipeline.arrRef spec1 w) :=
  (W4_arr m ρ c w).symm
/-- The other buffers are kept. -/
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers at the end. -/
abbrev W5 : Dev nD → Valuation τ sig (Elt F) := fun c => StableHlo.after hostOps2 (W4 m ρ c)
/-- A reference the stretch does not write is kept. -/
theorem W5_of (c : Dev nD) (r : Ref sig .tc) (h : r ∉ host2_W) : W5 m ρ c (Proc.devRef .tc r) = W4 m ρ c (Proc.devRef .tc r) :=
  StableHlo.after_of_writes_sub hostOps2 _ host2_writes h
/-- Up to here every argument is as launched. -/
theorem W5_args (c : Dev nD) : ∀ a ∈ args, W5 m ρ c (Proc.devRef .tc a) = m ((c : Thread nD τ).loc a) :=
  fun a ha => (W5_of m ρ c a (host2_args a ha)).trans (W4_args m ρ c a ha)

/-- No table is prefetched. -/
abbrev adm : (p : Fin 2) → (pcfgs (F := F) p).Adm := fun p => (cfgs p).toPCfg_adm
/-- The proof data of the two regions. -/
def dats : (p : Fin 2) → (c : Dev nD) → Dat τ (Elt F) Unit ℕ (UR sig nD τ) ℕ (Pipeline.pin (pcfgs (F := F)) adm p) c
  | ⟨0, _⟩ => fun c => prepDat (V1 m ρ) c
  | ⟨1, _⟩ => fun c => blockDat (V3 m ρ) c
/-- No variant. -/
abbrev noVar : Variants := Variants.none
/-- No level is assigned. -/
abbrev L : GSem nD τ sig → Finset Unit := fun _ => ∅
/-- No level is assigned. -/
abbrev lv : GSem nD τ sig → Unit → ℕ := fun _ _ => 0
/-- What rides along every segment: the generator register and an empty debt. -/
abbrev R (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last segment ends in. -/
abbrev lastState (c : Dev nD) : sProp 𝕄 := iprop(StableHlo.held (c : Thread nD τ) (Pipeline.ucRefs τ sig) (W5 m ρ c) ∗ ∃ r, prngReg c r)

set_option backward.isDefEq.respectTransparency.types false in
/-- Region 0 between the buffers `W1` and `W2`. -/
def prepSeg : Pipeline.RegionSeg (pcfgs (F := F)) adm (dats m ρ) () defs₀ noVar L lv 0 where
  win := launch0.win.to₀
  block_pos := launch0.block_pos
  stage_whole := launch0.stage_whole
  K := PEmpty
  osem k := k.elim
  ho := Pipeline.OwnSemFacts.none _
  hbody c := (prep_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (dats m ρ) launch0.win launch0.arr_whole c
      ((dats m ρ 0 c).share_full fun _ => rfl) (V1 m ρ c) (prep_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m ρ) ((dats m ρ 0 c).share_full fun _ => rfl)
      (V1 m ρ c) (V2 m ρ c) ((dats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the buffers `W3` and `W4`, its scratch invariant opened from and closed to the scoped buffers. -/
def blockSeg : Pipeline.RegionSeg (pcfgs (F := F)) adm (dats m ρ) () defs₀ noVar L lv 1 where
  win := launch1.win.to₀
  block_pos := launch1.block_pos
  stage_whole := launch1.stage_whole
  K := PEmpty
  osem k := k.elim
  ho := Pipeline.OwnSemFacts.none _
  hbody c := (block_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (dats m ρ) launch1.win launch1.arr_whole c
      ((dats m ρ 1 c).share_full fun _ => rfl) (V3 m ρ c) (block_A (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := inv_start (V3 m ρ) c
    rw [show (dats m ρ 1 c).Φ 0 = blockInv (V3 m ρ) c 0 from rfl]
    unfold Pipeline.ΦA at h
    iintro ⟨Hp, -, Hr⟩
    iapply h
    isplitl [Hr]; · iexact Hr
    iexact Hp
  hout c := by
    have h := inv_stop (V3 m ρ) c cfg1.N
    rw [Pipeline.ownSems0_none, show (dats m ρ 1 c).Φ (Fin.last _) = blockInv (V3 m ρ) c cfg1.N from rfl]
    unfold Pipeline.ΦA at h
    iintro HI
    ihave H := h $$ HI
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m ρ) ((dats m ρ 1 c).share_full fun _ => rfl)
      (V3 m ρ c) (V4 m ρ c) ((dats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch's five segments. -/
abbrev parts : List (Pipeline.Seg (pcfgs (F := F)) adm (dats m ρ) () defs₀ noVar L lv) :=
  [ .host (hostSeg hostOps0 hostOps0_sub host0_fresh (W0 m ρ)),
    .region (prepSeg m ρ),
    .host (hostSeg hostOps1 hostOps1_sub host1_fresh (W2 m ρ)),
    .region (blockSeg m ρ),
    .host (hostSeg hostOps2 hostOps2_sub host2_fresh (W4 m ρ)) ]
/-- The launch is the run of its segments. -/
theorem main_eq (c : Dev nD) : main (F := F) c = Pipeline.Seg.run (parts m ρ) := (main_chain c).trans (by chain_rfl)

/-- There is no unscoped counter. -/
theorem all_scoped : ∀ sm : SemLoc sig, sm.isScoped .tc = true := by decide

set_option backward.isDefEq.respectTransparency.types false in
/-- From any memory with zero counters every weakly fair execution ends, without a fault, with the four results at the last boundary, every argument array as launched and every counter at zero. -/
theorem run_sound : θ_run defs (onTc (τ := τ) (main (F := F))) ⟨m, fun _ => 0, ρ⟩ (fun r => (∀ c : Dev nD,
      r.2.mem ((c.tc : Thread nD τ).loc main_v11_0) = W5 m ρ c (Proc.devRef .tc main_v11_0)
      ∧ r.2.mem ((c.tc : Thread nD τ).loc main_v13) = W5 m ρ c (Proc.devRef .tc main_v13)
      ∧ r.2.mem ((c.tc : Thread nD τ).loc main_v15) = W5 m ρ c (Proc.devRef .tc main_v15)
      ∧ r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (dats m ρ) () cellOf_inj emb₁ defs₀ noVar L lv m ρ main (parts m ρ)
    (fun c Q => by rw [main_eq m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := lastState m ρ)
    (hch := ⟨fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v11_0 (by decide)),
       h c _ (mem_uc main_v13 (by decide)),
       h c _ (mem_uc main_v15 (by decide)),
       h c _ (mem_uc main_v17 (by decide)),
       (h c _ (mem_uc main_arg0 (by decide))).trans (W5_args m ρ c main_arg0 (by decide)),
       (h c _ (mem_uc main_arg1 (by decide))).trans (W5_args m ρ c main_arg1 (by decide)),
       (h c _ (mem_uc main_arg2 (by decide))).trans (W5_args m ρ c main_arg2 (by decide)),
       (h c _ (mem_uc main_arg3 (by decide))).trans (W5_args m ρ c main_arg3 (by decide)),
       (h c _ (mem_uc main_arg4 (by decide))).trans (W5_args m ρ c main_arg4 (by decide)),
       (h c _ (mem_uc main_arg5 (by decide))).trans (W5_args m ρ c main_arg5 (by decide)),
       (h c _ (mem_uc main_arg6 (by decide))).trans (W5_args m ρ c main_arg6 (by decide)),
       (h c _ (mem_uc main_arg7 (by decide))).trans (W5_args m ρ c main_arg7 (by decide)),
       (h c _ (mem_uc main_arg8 (by decide))).trans (W5_args m ρ c main_arg8 (by decide)),
       (h c _ (mem_uc main_arg9 (by decide))).trans (W5_args m ρ c main_arg9 (by decide)),
       (h c _ (mem_uc main_arg10 (by decide))).trans (W5_args m ρ c main_arg10 (by decide)),
       (h c _ (mem_uc main_arg11 (by decide))).trans (W5_args m ρ c main_arg11 (by decide)),
       (h c _ (mem_uc main_arg12 (by decide))).trans (W5_args m ρ c main_arg12 (by decide)),
       (h c _ (mem_uc main_arg13 (by decide))).trans (W5_args m ρ c main_arg13 (by decide)),
       (h c _ (mem_uc main_arg14 (by decide))).trans (W5_args m ρ c main_arg14 (by decide))⟩), funext fun g => hz g (.inr (all_scoped g.2))⟩)

/-- The run without the results: every argument array ends as launched, and every counter of the machine at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2.2.2.2, h.2⟩) (run_sound m ρ)

end Cert.KernelIdeal.Hand
-- ==== Proof.Model.lean ====
module

public import Idealize.ShloMosaic.Lib.Pointwise
public import Idealize.ShloMosaic.Lib.IdealHost

/-! The problem's maths on plain functions over the extended reals: rows are numbered by naturals within a sequence, columns
by `Fin 1024`. Both programs are read as instances of it, differing only in the form of the pre-activation. -/

@[expose] public section

noncomputable section

namespace Cert.Model

open Idealize.ShloMosaic

/-- The rows of one sequence. -/
abbrev Rows := ℕ → Fin 1024 → EReal

/-- The fifteen arguments, read at indices. -/
structure Par where
  x : Fin 2 → Rows
  win : Fin 1024 → Fin 1024 → EReal
  bin : Fin 1024 → EReal
  cw : Fin 1024 → Fin 5 → EReal
  cb : Fin 1024 → EReal
  wp : Fin 1024 → Fin 1024 → EReal
  bp : Fin 1024 → EReal
  wh : Fin 3 → Fin 1024 → EReal
  bh : Fin 3 → EReal
  w1 : Fin 1024 → Fin 3072 → EReal
  b1 : Fin 1024 → EReal
  w2 : Fin 1024 → Fin 1024 → EReal
  b2 : Fin 1024 → EReal
  wout : Fin 1024 → Fin 1024 → EReal
  bout : Fin 1024 → EReal

/-- Column `k` of the first third of the wide weight. -/
abbrev colA (k : Fin 1024) : Fin 3072 := ⟨k.val, by omega⟩
/-- Column `k` of its second third. -/
abbrev colB (k : Fin 1024) : Fin 3072 := ⟨1024 + k.val, by omega⟩
/-- Column `k` of its last third. -/
abbrev colC (k : Fin 1024) : Fin 3072 := ⟨2048 + k.val, by omega⟩

/-- The phrase length as an extended real. -/
def len : EReal := Ideal.ofBits .f32 0x42000000#32
/-- The number of rows of the two sequences together. -/
def total : EReal := Ideal.ofBits .f32 0x45800000#32

/-- The row `4 - q` places before row `r`, zero before the start of the sequence. -/
def lag (H : Rows) (r q : ℕ) (d : Fin 1024) : EReal := if r + q < 4 then 0 else H (r + q - 4) d

variable (p : Par)

/-- The hidden rows before the first micro-step. -/
def first (b : Fin 2) : Rows := fun r j => (∑ k : Fin 1024, p.x b r k * p.win j k) + p.bin j

/-- The causal mix. -/
def mix (H : Rows) : Rows := fun r d =>
  p.cb d + lag H r 0 d * p.cw d 0 + lag H r 1 d * p.cw d 1 + lag H r 2 d * p.cw d 2 + lag H r 3 d * p.cw d 3 + lag H r 4 d * p.cw d 4

/-- The mean over the phrase a row lies in. -/
def avg (H : Rows) : Rows := fun r d => Ideal.div (∑ k : Fin 32, H (r / 32 * 32 + k.val) d) len

/-- Head `q` at a row: a logistic of a linear form. -/
def head (H : Rows) (q : Fin 3) (r : ℕ) : EReal := Ideal.logistic ((∑ d : Fin 1024, H r d * p.wh q d) + p.bh q)

/-- The pre-activation with the phrase projection folded into the weights. -/
def preK (H : Rows) : Rows := fun r j =>
  (∑ d : Fin 1024, H r d * p.w1 j (colA d)) + (∑ d : Fin 1024, mix p H r d * p.w1 j (colB d))
    + ((∑ e : Fin 1024, avg H r e * (∑ k : Fin 1024, p.w1 j (colC k) * p.wp k e))
        + (p.b1 j + ∑ k : Fin 1024, p.bp k * p.w1 j (colC k)))

/-- The phrase projection. -/
def phrase (H : Rows) : Rows := fun r j => (∑ e : Fin 1024, avg H r e * p.wp j e) + p.bp j

/-- The pre-activation as the problem states it, its three parts apart. -/
def preR (H : Rows) : Rows := fun r j =>
  (∑ d : Fin 1024, H r d * p.w1 j (colA d)) + (∑ d : Fin 1024, mix p H r d * p.w1 j (colB d))
    + (∑ d : Fin 1024, phrase p H r d * p.w1 j (colC d)) + p.b1 j

/-- The ungated update. -/
def upd (P : Rows) : Rows := fun r j => (∑ k : Fin 1024, Ideal.tanh (P r k) * p.w2 j k) + p.b2 j

/-- One micro-step, given the form of the pre-activation. -/
def step (pre : Rows → Rows) (H : Rows) : Rows := fun r j => H r j + upd p (pre H) r j * head p H 2 r

/-- The hidden rows after `n` micro-steps. -/
def hid (pre : Rows → Rows) (b : Fin 2) : ℕ → Rows
  | 0 => first p b
  | n + 1 => step p pre (hid pre b n)

/-- The result's rows. -/
def out (pre : Rows → Rows) (b : Fin 2) : Rows := fun r j =>
  p.x b r j + (∑ k : Fin 1024, hid p pre b 3 r k * p.wout j k) + p.bout j

/-- Head `q`'s mean over all rows, at the hidden rows entering the last micro-step. -/
def meanHead (pre : Rows → Rows) (q : Fin 3) : EReal :=
  Ideal.div (∑ b : Fin 2, ∑ r : Fin 2048, head p (hid p pre b 2) q r.val) total

/-- The fifteen argument arrays read at indices; past the end of a sequence its rows are read as zero. -/
def parOf (a0 : FVec Ideal ⟨3, ![2, 2048, 1024]⟩ .f32) (a1 : FVec Ideal ⟨2, ![1024, 1024]⟩ .f32) (a2 : FVec Ideal ⟨1, ![1024]⟩ .f32)
    (a3 : FVec Ideal ⟨2, ![1024, 5]⟩ .f32) (a4 : FVec Ideal ⟨1, ![1024]⟩ .f32) (a5 : FVec Ideal ⟨2, ![1024, 1024]⟩ .f32)
    (a6 : FVec Ideal ⟨1, ![1024]⟩ .f32) (a7 : FVec Ideal ⟨2, ![3, 1024]⟩ .f32) (a8 : FVec Ideal ⟨1, ![3]⟩ .f32)
    (a9 : FVec Ideal ⟨2, ![1024, 3072]⟩ .f32) (a10 : FVec Ideal ⟨1, ![1024]⟩ .f32) (a11 : FVec Ideal ⟨2, ![1024, 1024]⟩ .f32)
    (a12 : FVec Ideal ⟨1, ![1024]⟩ .f32) (a13 : FVec Ideal ⟨2, ![1024, 1024]⟩ .f32) (a14 : FVec Ideal ⟨1, ![1024]⟩ .f32) : Par where
  x b r k := if h : r < 2048 then a0 (ix3 b ⟨r, h⟩ k) else 0
  win j k := a1 (ix2 j k)
  bin j := a2 (ix1 j)
  cw d q := a3 (ix2 d q)
  cb d := a4 (ix1 d)
  wp e k := a5 (ix2 e k)
  bp e := a6 (ix1 e)
  wh q k := a7 (ix2 q k)
  bh q := a8 (ix1 q)
  w1 j k := a9 (ix2 j k)
  b1 j := a10 (ix1 j)
  w2 j k := a11 (ix2 j k)
  b2 j := a12 (ix1 j)
  wout j k := a13 (ix2 j k)
  bout j := a14 (ix1 j)

end Cert.Model
-- ==== Proof.Equal.lean ====
module

public import proofs.«01_k».proof.Proof.Model
public import Idealize.ShloMosaic.Lib.Pointwise

/-! The two forms of the pre-activation agree on finite hidden rows, and the hidden rows of finite arguments are finite. -/

@[expose] public section

noncomputable section

namespace Cert.Model

open Idealize.ShloMosaic

/-- An extended real that is a real. -/
def Fin' (x : EReal) : Prop := ∃ y : ℝ, x = (y : EReal)

/-- Sums of reals are finite. -/
theorem Fin'.add {x y : EReal} (hx : Fin' x) (hy : Fin' y) : Fin' (x + y) := by
  obtain ⟨a, rfl⟩ := hx
  obtain ⟨b, rfl⟩ := hy
  exact ⟨a + b, (EReal.coe_add a b).symm⟩

/-- Products of reals are finite. -/
theorem Fin'.mul {x y : EReal} (hx : Fin' x) (hy : Fin' y) : Fin' (x * y) := by
  obtain ⟨a, rfl⟩ := hx
  obtain ⟨b, rfl⟩ := hy
  exact ⟨a * b, (EReal.coe_mul a b).symm⟩

/-- The embedding of the reals takes finite sums to finite sums. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite sums of reals are finite. -/
theorem Fin'.sum {ι : Type} {s : Finset ι} {f : ι → EReal} (h : ∀ i, Fin' (f i)) : Fin' (∑ i ∈ s, f i) := by
  choose g hg using h
  exact ⟨∑ i ∈ s, g i, by rw [coe_sum']; exact Finset.sum_congr rfl fun i _ => hg i⟩

/-- The hyperbolic tangent is finite everywhere. -/
theorem fin_tanh (x : EReal) : Fin' (Ideal.tanh x) := by
  induction x with
  | bot => exact ⟨-1, by rw [Ideal.tanh_bot]; rfl⟩
  | top => exact ⟨1, by rw [Ideal.tanh_top]; rfl⟩
  | coe x => exact ⟨_, Ideal.tanh_coe x⟩

/-- The logistic is finite everywhere. -/
theorem fin_logistic (x : EReal) : Fin' (Ideal.logistic x) := by
  induction x with
  | bot => exact ⟨0, by rw [Ideal.logistic_bot]; rfl⟩
  | top => exact ⟨1, by rw [Ideal.logistic_top]; rfl⟩
  | coe x => exact ⟨_, Ideal.logistic_coe x⟩

/-- The phrase length is thirty-two. -/
theorem len_eq : len = ((32 : ℝ) : EReal) := by
  unfold len
  simp [Ideal.ofBits, Ideal.ieee, -EReal.coe_mul]
  norm_num

/-- A mean of reals is finite. -/
theorem Fin'.avg {H : Rows} (h : ∀ r d, Fin' (H r d)) (r : ℕ) (d : Fin 1024) : Fin' (avg H r d) := by
  unfold Cert.Model.avg
  rw [len_eq, Ideal.div_coe (by norm_num)]
  exact (Fin'.sum fun k => h _ _).mul ⟨_, rfl⟩

/-- What the arguments have to be for the two forms to agree. -/
structure Fine (p : Par) : Prop where
  x : ∀ b r k, Fin' (p.x b r k)
  win : ∀ j k, Fin' (p.win j k)
  bin : ∀ j, Fin' (p.bin j)
  wp : ∀ e k, Fin' (p.wp e k)
  w1 : ∀ j k, Fin' (p.w1 j (colC k))
  w2 : ∀ j k, Fin' (p.w2 j k)
  b2 : ∀ j, Fin' (p.b2 j)

/-- Folding a projection into a weight: the sums over reals may be exchanged. -/
theorem fold_real {n m : ℕ} (a : Fin n → ℝ) (w : Fin m → Fin n → ℝ) (c : Fin m → ℝ) :
    (∑ e, a e * ∑ k, c k * w k e) = ∑ k, (∑ e, a e * w k e) * c k := by
  simp only [Finset.mul_sum, Finset.sum_mul]
  rw [Finset.sum_comm]
  exact Finset.sum_congr rfl fun k _ => Finset.sum_congr rfl fun e _ => by ring

/-- A real factor distributes over a real and any extended real. -/
theorem distrib_real (r c : ℝ) (b : EReal) : ((r : EReal) + b) * (c : EReal) = (r : EReal) * c + b * c := by
  induction b with
  | coe b => rw [← EReal.coe_add, ← EReal.coe_mul, ← EReal.coe_mul, ← EReal.coe_mul, ← EReal.coe_add, add_mul]
  | top =>
    rw [EReal.coe_add_top, ← EReal.coe_mul]
    rcases lt_trichotomy c 0 with h | h | h
    · rw [EReal.top_mul_coe_of_neg h, EReal.add_bot]
    · subst h; simp
    · rw [EReal.top_mul_coe_of_pos h, EReal.coe_add_top]
  | bot =>
    rw [EReal.add_bot, ← EReal.coe_mul]
    rcases lt_trichotomy c 0 with h | h | h
    · rw [EReal.bot_mul_coe_of_neg h, EReal.coe_add_top]
    · subst h; simp
    · rw [EReal.bot_mul_coe_of_pos h, EReal.add_bot]

/-- The fold for extended reals that are reals, with any offset. -/
theorem fold_fin {n m : ℕ} {a : Fin n → EReal} {w : Fin m → Fin n → EReal} {c : Fin m → EReal}
    (ha : ∀ e, Fin' (a e)) (hw : ∀ k e, Fin' (w k e)) (hc : ∀ k, Fin' (c k)) (b : Fin m → EReal) :
    (∑ e, a e * ∑ k, c k * w k e) + ∑ k, b k * c k = ∑ k, ((∑ e, a e * w k e) + b k) * c k := by
  choose a' ha using ha
  choose w' hw using hw
  choose c' hc using hc
  simp only [ha, hw, hc, ← EReal.coe_mul, ← coe_sum']
  simp only [distrib_real, Finset.sum_add_distrib, ← EReal.coe_mul, ← coe_sum']
  rw [fold_real a' w' c']

variable {p : Par}

/-- The two forms of the pre-activation agree on finite rows. -/
theorem pre_eq (hp : Fine p) {H : Rows} (h : ∀ r d, Fin' (H r d)) : preK p H = preR p H := by
  funext r j
  unfold preK preR phrase
  rw [← fold_fin (fun e => Fin'.avg h r e) (fun k e => hp.wp k e) (fun k => hp.w1 j k) p.bp]
  simp only [add_assoc]
  rw [add_comm (p.b1 j)]

/-- The hidden rows stay finite. -/
theorem fin_hid (hp : Fine p) (pre : Rows → Rows) (b : Fin 2) (n : ℕ) : ∀ r d, Fin' (hid p pre b n r d) := by
  induction n with
  | zero => exact fun r d => (Fin'.sum fun k => (hp.x b r k).mul (hp.win d k)).add (hp.bin d)
  | succ n ih =>
    exact fun r d => (ih r d).add (((Fin'.sum fun k => (fin_tanh _).mul (hp.w2 d k)).add (hp.b2 d)).mul (fin_logistic _))

/-- The hidden rows of the two forms agree. -/
theorem hid_eq (hp : Fine p) (b : Fin 2) (n : ℕ) : hid p (preK p) b n = hid p (preR p) b n := by
  induction n with
  | zero => rfl
  | succ n ih =>
    show step p (preK p) (hid p (preK p) b n) = step p (preR p) (hid p (preR p) b n)
    rw [ih]
    unfold step
    rw [pre_eq hp (fin_hid hp (preR p) b n)]

/-- The first results agree. -/
theorem out_eq (hp : Fine p) (b : Fin 2) : out p (preK p) b = out p (preR p) b := by
  unfold out
  rw [hid_eq hp]

/-- The head means agree. -/
theorem mean_eq (hp : Fine p) (q : Fin 3) : meanHead p (preK p) q = meanHead p (preR p) q := by
  unfold meanHead
  simp only [hid_eq hp]

end Cert.Model
-- ==== Proof.KernelIdeal.Finite.lean ====
module

public import proofs.«01_k».proof.Pre_finite_inputs
public import proofs.«01_k».proof.Proof.Equal
public import Idealize.ShloMosaic.Lib.ReduceAll
public import Idealize.ShloMosaic.Lib.Pointwise

/-! What the precondition says: every entry it reads is a real number. -/

@[expose] public section

set_option maxRecDepth 16384

noncomputable section

namespace Cert.Pre_finite_inputs.Hand

open Cert.Pre_finite_inputs Cert.Model
open Idealize.ShloMosaic

/-- The shape relations the predicate's operations take. -/
theorem facts : Facts where
  bcast_S_S2x2048x1024 := by decide
  reducesTo_S2x2048x1024_S_d0_1_2 := by decide
  h_S_ := by decide
  bcast_S_S1024x1024 := by decide
  reducesTo_S1024x1024_S_d0_1 := by decide
  bcast_S_S1024 := by decide
  reducesTo_S1024_S_d0 := by decide
  slices_S1024x3072_S1024x1024_0_2048 := by decide

/-- An extended real of finite magnitude is a real. -/
theorem fin_of_abs {x : EReal} (h : max x (-x) < ⊤) : Fin' x := by
  induction x with
  | bot => simp at h
  | top => simp at h
  | coe y => exact ⟨y, rfl⟩

/-- The word the predicate compares with is the greatest extended real. -/
theorem top_word : Ideal.ofBits .f32 0x7F800000#32 = (⊤ : EReal) := by
  simp [Ideal.ofBits, Ideal.ieee]

/-- The result's one index is the only one. -/
instance : Subsingleton S_.Idx := ⟨fun a b => funext fun d => d.elim0⟩

/-- One conjunct of the predicate: all entries of an array are finite. -/
theorem fin_of_all {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1)
    (i : s.Idx) : Fin' (a i) := by
  have h1 := Host.reduce_andi_all _ _ hr hu j h i
  have h2 : Ideal.cmp .olt (max (a i) (-(a i))) (Ideal.ofBits .f32 0x7F800000#32) = 1 := h1
  rw [Ideal.cmp_olt_eq_one, top_word] at h2
  exact fin_of_abs h2

attribute [local instance] facts

/-- The arguments the predicate accepts are fine. -/
theorem fine_of_pre (a0 : FVec Ideal S2x2048x1024 .f32) (a1 : FVec Ideal S1024x1024 .f32) (a2 : FVec Ideal S1024 .f32)
    (a3 : FVec Ideal S1024x5 .f32) (a4 : FVec Ideal S1024 .f32) (a5 : FVec Ideal S1024x1024 .f32)
    (a6 : FVec Ideal S1024 .f32) (a7 : FVec Ideal S3x1024 .f32) (a8 : FVec Ideal S3 .f32)
    (a9 : FVec Ideal S1024x3072 .f32) (a10 : FVec Ideal S1024 .f32) (a11 : FVec Ideal S1024x1024 .f32)
    (a12 : FVec Ideal S1024 .f32) (a13 : FVec Ideal S1024x1024 .f32) (a14 : FVec Ideal S1024 .f32)
    (h : fn (F := Ideal) a0 a1 a2 a3 a4 a5 a6 a7 a8 a9 a10 a11 a12 a13 a14 = fun _ => 1#1) :
    Fine (parOf a0 a1 a2 a3 a4 a5 a6 a7 a8 a9 a10 a11 a12 a13 a14) := by
  have hj := congrFun h (Fin.elim0 ·)
  unfold fn fn_part1 fn_part2 at hj
  dsimp only at hj
  simp only [andi_apply, IntOp.andi_eq_one] at hj
  obtain ⟨⟨⟨⟨⟨⟨h0, h1⟩, h2⟩, h5⟩, h9⟩, h11⟩, h12⟩ := hj
  have f0 := fin_of_all _ _ _ _ _ h0
  have f1 := fin_of_all _ _ _ _ _ h1
  have f2 := fin_of_all _ _ _ _ _ h2
  have f5 := fin_of_all _ _ _ _ _ h5
  have f9 := fin_of_all _ _ _ _ _ h9
  have f11 := fin_of_all _ _ _ _ _ h11
  have f12 := fin_of_all _ _ _ _ _ h12
  refine ⟨fun b r k => ?_, fun j k => f1 _, fun j => f2 _, fun e k => f5 _, fun j k => ?_, fun j k => f11 _, fun j => f12 _⟩
  · show Fin' (dite _ _ _)
    by_cases hr : r < 2048
    · rw [dif_pos hr]; exact f0 _
    · rw [dif_neg hr]; exact ⟨0, rfl⟩
  · have := f9 (ix2 j k)
    rw [show extractStridedSlice S1024x1024 ![0, 2048] a9 Facts.slices_S1024x3072_S1024x1024_0_2048 (ix2 j k) = a9 (ix2 j (colC k)) from by pointwise] at this
    exact this

end Cert.Pre_finite_inputs.Hand
-- ==== Proof.KernelIdeal.Pays.lean ====
module

public import proofs.«01_k».proof.Proof.Gen.KernelIdeal.Skeleton
public import Idealize.ShloMosaic.Lib.Pointwise
public import Idealize.ShloMosaic.Lib.IdealHost

/-! The operations of the two kernel calls' bodies, read at an index: each one's element as sums and products of its
operands' elements, over the extended reals. -/

@[expose] public section

set_option maxRecDepth 16384
set_option maxHeartbeats 1000000

noncomputable section

namespace Cert.KernelIdeal.Hand

open Cert.KernelIdeal Cert.KernelIdeal.Gen
open Idealize.ShloMosaic

section
variable (x : FVec Ideal S1x1024x1024 .f32) (w : FVec Ideal S1024x1024 .bf16) (bi : FVec Ideal S1x1024 .f32)
variable (h p u : FVec Ideal S1024x1024 .f32) (l m : FVec Ideal S1024x1024 .bf16) (wah : FVec Ideal S1024x1152 .bf16)
variable (wb w2 : FVec Ideal S1024x1024 .bf16) (b2 : FVec Ideal S1x1024 .f32) (bh : FVec Ideal S1x1 .f32)
variable (jt : FVec Ideal S1024x1152 .f32) (ph : FVec Ideal S32x1024 .f32) (g : FVec Ideal S1024x1 .f32)
variable (c : FVec Ideal S1028x1024 .bf16) (cb c0 c1 c2 c3 c4 : FVec Ideal S1x1024 .bf16)
variable (v : BitVec 1) (t : FVec Ideal S1x8x1024 .bf16) (r j : Fin 1024)

/-- The first projection at a row and column. -/
theorem pay3_at : k1_pay3 (F := Ideal) x w bi (ix2 r j) = (∑ k : Fin 1024, x (ix3 0 r k) * w (ix2 k j)) + bi (ix2 0 j) := by
  unfold k1_pay3 k1_pay2
  pointwise

/-- Narrowing it leaves it as it is. -/
theorem pay4_at : (k1_pay4 (F := Ideal) x w bi (ix2 r j) : EReal) = k1_pay3 (F := Ideal) x w bi (ix2 r j) := by
  unfold k1_pay4
  pointwise

/-- The stored tail's row `q` is row `1016 + q`. -/
theorem pay5_at (q : Fin 8) : (k1_pay5 (F := Ideal) x w bi (ix3 0 q j) : EReal) = k1_pay3 (F := Ideal) x w bi (ix2 ⟨1016 + q.val, by omega⟩ j) := by
  unfold k1_pay5 k1_pay4
  pointwise

/-- The joined rows of the first micro-step. -/
theorem pay6_at (i : grid1.Coords) (q : Fin 1028) : (k1_pay6 (F := Ideal) i x w bi t (ix2 q j) : EReal)
    = if h : q.val < 4 then Scalar.select (Scalar.cmpi .eq (BitVec.ofNat 32 (i 1).val) 0#32) 0 (t (ix3 0 ⟨4 + q.val, by omega⟩ j))
      else k1_pay3 (F := Ideal) x w bi (ix2 ⟨q.val - 4, by omega⟩ j) := by
  unfold k1_pay6 k1_pay4
  pointwise

/-- The mix of the first micro-step. -/
theorem pay10_at (i : grid1.Coords) :
    k1_pay10 c (k1_pay7 i x w bi t cb c0) (k1_pay8 i x w bi t) (k1_pay9 c1) c2 c3 c4 (ix2 r j)
      = cb (ix2 0 j) + k1_pay6 i x w bi t (ix2 ⟨r.val, by omega⟩ j) * c0 (ix2 0 j) + k1_pay6 i x w bi t (ix2 ⟨1 + r.val, by omega⟩ j) * c1 (ix2 0 j)
        + c (ix2 ⟨2 + r.val, by omega⟩ j) * c2 (ix2 0 j) + c (ix2 ⟨3 + r.val, by omega⟩ j) * c3 (ix2 0 j)
        + c (ix2 ⟨4 + r.val, by omega⟩ j) * c4 (ix2 0 j) := by
  unfold k1_pay10 k1_pay7 k1_pay8 k1_pay9
  pointwise

/-- The phrase term. -/
theorem pay11_at : k1_pay11 l w bi (ix2 r j)
    = (∑ e : Fin 1024, Ideal.div (∑ k : Fin 32, l (ix2 ⟨r.val / 32 * 32 + k.val, by omega⟩ e)) (Ideal.ofBits .f32 0x42000000#32) * w (ix2 e j))
      + bi (ix2 0 j) := by
  unfold k1_pay11
  pointwise

/-- The phrase term of the second micro-step. -/
theorem pay21_at : k1_pay21 l w bi (ix2 r j)
    = (∑ e : Fin 1024, Ideal.div (∑ k : Fin 32, l (ix2 ⟨r.val / 32 * 32 + k.val, by omega⟩ e)) (Ideal.ofBits .f32 0x42000000#32) * w (ix2 e j))
      + bi (ix2 0 j) := by
  unfold k1_pay21
  pointwise

/-- The phrase means of the third micro-step times their matrix. -/
theorem pay27_at (q : Fin 32) : k1_pay27 l w (ix2 q j)
    = ∑ e : Fin 1024, Ideal.div (∑ k : Fin 32, l (ix2 ⟨q.val * 32 + k.val, by omega⟩ e)) (Ideal.ofBits .f32 0x42000000#32) * w (ix2 e j) := by
  unfold k1_pay27
  pointwise

/-- The product with the joined matrix. -/
theorem pay12_at (k : Fin 1152) : k1_pay12 l wah (ix2 r k) = ∑ d : Fin 1024, l (ix2 r d) * wah (ix2 d k) := by
  unfold k1_pay12
  pointwise

/-- The same product at the third micro-step. -/
theorem pay29_at (k : Fin 1152) : k1_pay29 l wah (ix2 r k) = ∑ d : Fin 1024, l (ix2 r d) * wah (ix2 d k) := by
  unfold k1_pay29
  pointwise

/-- Its first columns. -/
theorem pay13_at : k1_pay13 l wah (ix2 r j) = ∑ d : Fin 1024, l (ix2 r d) * wah (ix2 d ⟨j.val, by omega⟩) := by
  unfold k1_pay13 k1_pay12
  pointwise

/-- The first micro-step. -/
theorem pay14_at : k1_pay14 h m p jt u wb w2 b2 bh (ix2 r j)
    = h (ix2 r j)
      + ((∑ k : Fin 1024, Ideal.tanh (u (ix2 r k) + (∑ d : Fin 1024, m (ix2 r d) * wb (ix2 d k)) + p (ix2 r k)) * w2 (ix2 k j)) + b2 (ix2 0 j))
        * Ideal.logistic (jt (ix2 r 1026) + bh (ix2 0 0)) := by
  unfold k1_pay14
  pointwise

/-- Narrowing it leaves it as it is. -/
theorem pay15_at : k1_pay15 h m p jt u wb w2 b2 bh (ix2 r j) = k1_pay14 h m p jt u wb w2 b2 bh (ix2 r j) := by
  unfold k1_pay15
  pointwise

/-- The stored tail's row `q` is row `1016 + q`. -/
theorem pay16_at (q : Fin 8) : k1_pay16 h m p jt u wb w2 b2 bh (ix3 0 q j)
    = k1_pay14 h m p jt u wb w2 b2 bh (ix2 ⟨1016 + q.val, by omega⟩ j) := by
  unfold k1_pay16 k1_pay15
  pointwise

/-- The joined rows of the second micro-step. -/
theorem pay17_at (q : Fin 1028) : k1_pay17 v h m p jt u wb w2 b2 bh t (ix2 q j)
    = if h' : q.val < 4 then Scalar.select v 0 (t (ix3 0 ⟨4 + q.val, by omega⟩ j))
      else k1_pay14 h m p jt u wb w2 b2 bh (ix2 ⟨q.val - 4, by omega⟩ j) := by
  unfold k1_pay17 k1_pay15
  pointwise

/-- The mix of the second micro-step. -/
theorem pay20_at :
    k1_pay20 c (k1_pay18 cb) (k1_pay19 v h m p jt u wb w2 b2 bh t c0) c1 c2 c3 c4 (ix2 r j)
      = cb (ix2 0 j) + k1_pay17 v h m p jt u wb w2 b2 bh t (ix2 ⟨r.val, by omega⟩ j) * c0 (ix2 0 j) + c (ix2 ⟨1 + r.val, by omega⟩ j) * c1 (ix2 0 j)
        + c (ix2 ⟨2 + r.val, by omega⟩ j) * c2 (ix2 0 j) + c (ix2 ⟨3 + r.val, by omega⟩ j) * c3 (ix2 0 j)
        + c (ix2 ⟨4 + r.val, by omega⟩ j) * c4 (ix2 0 j) := by
  unfold k1_pay20 k1_pay18 k1_pay19
  pointwise

/-- The second micro-step. -/
theorem pay22_at : k1_pay22 h l m p wah wb w2 b2 bh (ix2 r j)
    = h (ix2 r j)
      + ((∑ k : Fin 1024, Ideal.tanh ((∑ d : Fin 1024, l (ix2 r d) * wah (ix2 d ⟨k.val, by omega⟩)) + (∑ d : Fin 1024, m (ix2 r d) * wb (ix2 d k)) + p (ix2 r k)) * w2 (ix2 k j)) + b2 (ix2 0 j))
        * Ideal.logistic ((∑ d : Fin 1024, l (ix2 r d) * wah (ix2 d 1026)) + bh (ix2 0 0)) := by
  unfold k1_pay22
  pointwise

/-- Narrowing it leaves it as it is. -/
theorem pay23_at : k1_pay23 h l m p wah wb w2 b2 bh (ix2 r j) = k1_pay22 h l m p wah wb w2 b2 bh (ix2 r j) := by
  unfold k1_pay23
  pointwise

/-- The stored tail's row `q` is row `1016 + q`. -/
theorem pay24_at (q : Fin 8) : k1_pay24 h l m p wah wb w2 b2 bh (ix3 0 q j)
    = k1_pay22 h l m p wah wb w2 b2 bh (ix2 ⟨1016 + q.val, by omega⟩ j) := by
  unfold k1_pay24 k1_pay23
  pointwise

/-- The joined rows of the third micro-step. -/
theorem pay25_at (q : Fin 1028) : k1_pay25 v h l m p wah wb w2 b2 bh t (ix2 q j)
    = if h' : q.val < 4 then Scalar.select v 0 (t (ix3 0 ⟨4 + q.val, by omega⟩ j))
      else k1_pay22 h l m p wah wb w2 b2 bh (ix2 ⟨q.val - 4, by omega⟩ j) := by
  unfold k1_pay25 k1_pay23
  pointwise

/-- The mix of the third micro-step. -/
theorem pay26_at : k1_pay26 c cb c0 c1 c2 c3 c4 (ix2 r j)
      = cb (ix2 0 j) + c (ix2 ⟨r.val, by omega⟩ j) * c0 (ix2 0 j) + c (ix2 ⟨1 + r.val, by omega⟩ j) * c1 (ix2 0 j)
        + c (ix2 ⟨2 + r.val, by omega⟩ j) * c2 (ix2 0 j) + c (ix2 ⟨3 + r.val, by omega⟩ j) * c3 (ix2 0 j)
        + c (ix2 ⟨4 + r.val, by omega⟩ j) * c4 (ix2 0 j) := by
  unfold k1_pay26
  pointwise

/-- The third micro-step's update before its gate. -/
theorem pay30_at : k1_pay30 l m ph (k1_pay28 bi) wah wb w2 b2 (ix2 r j)
    = (∑ k : Fin 1024, Ideal.tanh ((∑ d : Fin 1024, l (ix2 r d) * wah (ix2 d ⟨k.val, by omega⟩)) + (∑ d : Fin 1024, m (ix2 r d) * wb (ix2 d k))
          + (ph (ix2 ⟨r.val / 32, by omega⟩ k) + bi (ix2 0 k))) * w2 (ix2 k j)) + b2 (ix2 0 j) := by
  unfold k1_pay30 k1_pay28 k1_pay29
  pointwise

/-- The halting gate at a row. -/
theorem pay31_at : k1_pay31 l wah bh (ix2 r 0) = Ideal.logistic ((∑ d : Fin 1024, l (ix2 r d) * wah (ix2 d 1026)) + bh (ix2 0 0)) := by
  unfold k1_pay31 k1_pay29
  pointwise

/-- The block's salience sum. -/
theorem pay34_at : k1_pay34 (k1_pay33 l wah bh) (ix4 0 0 0 0)
    = ∑ r : Fin 1024, Ideal.logistic ((∑ d : Fin 1024, l (ix2 r d) * wah (ix2 d 1024)) + bh (ix2 0 0)) := by
  unfold k1_pay34 k1_pay33 k1_pay29
  pointwise
  simp only [Finset.univ_unique, Finset.sum_singleton]

/-- The block's uncertainty sum. -/
theorem pay35_at : k1_pay35 (k1_pay32 l wah bh) (ix4 0 0 0 0)
    = ∑ r : Fin 1024, Ideal.logistic ((∑ d : Fin 1024, l (ix2 r d) * wah (ix2 d 1025)) + bh (ix2 0 0)) := by
  unfold k1_pay35 k1_pay32 k1_pay29
  pointwise
  simp only [Finset.univ_unique, Finset.sum_singleton]

/-- The block's halting sum. -/
theorem pay36_at : k1_pay36 g (ix4 0 0 0 0) = ∑ r : Fin 1024, g (ix2 r 0) := by
  unfold k1_pay36
  pointwise
  simp only [Finset.univ_unique, Finset.sum_singleton]

/-- The block of the result. -/
theorem pay1_at : k1_pay1 (k1_pay37 (k1_pay2 x) h u g w b2) (ix3 0 r j)
    = x (ix3 0 r j) + (∑ k : Fin 1024, (h (ix2 r k) + u (ix2 r k) * g (ix2 r 0)) * w (ix2 k j)) + b2 (ix2 0 j) := by
  unfold k1_pay1 k1_pay37 k1_pay2
  pointwise
end

section
variable (a b : FVec Ideal S1024x1024 .f32) (y z : FVec Ideal S1x1024 .f32) (wh : FVec Ideal S3x1024 .f32) (r j : Fin 1024)

/-- A transposed weight. -/
theorem prep1_at : (k0_pay1 (F := Ideal) a (ix2 r j) : EReal) = a (ix2 j r) := by unfold k0_pay1; pointwise
/-- A transposed weight. -/
theorem prep3_at : (k0_pay3 (F := Ideal) a (ix2 r j) : EReal) = a (ix2 j r) := by unfold k0_pay3; pointwise
/-- A transposed weight. -/
theorem prep6_at : (k0_pay6 (F := Ideal) a (ix2 r j) : EReal) = a (ix2 j r) := by unfold k0_pay6; pointwise
/-- A transposed weight. -/
theorem prep7_at : (k0_pay7 (F := Ideal) a (ix2 r j) : EReal) = a (ix2 j r) := by unfold k0_pay7; pointwise
/-- The folded phrase bias. -/
theorem prep2_at : k0_pay2 a y z (ix2 0 j) = y (ix2 0 j) + ∑ k : Fin 1024, z (ix2 0 k) * a (ix2 j k) := by unfold k0_pay2; pointwise
/-- The folded phrase weight. -/
theorem prep4_at : (k0_pay4 (F := Ideal) a b (ix2 r j) : EReal) = ∑ k : Fin 1024, a (ix2 j k) * b (ix2 k r) := by unfold k0_pay4; pointwise
/-- The joined matrix's first columns. -/
theorem prep5_at_low : (k0_pay5 (F := Ideal) a wh (ix2 r ⟨j.val, by omega⟩) : EReal) = a (ix2 j r) := by
  unfold k0_pay5; pointwise
/-- The joined matrix's head columns. -/
theorem prep5_at_head (q : Fin 3) : (k0_pay5 (F := Ideal) a wh (ix2 r ⟨1024 + q.val, by omega⟩) : EReal) = wh (ix2 q r) := by
  unfold k0_pay5; pointwise
end

end Cert.KernelIdeal.Hand
-- ==== Proof.KernelIdeal.Stages.lean ====
module

public import proofs.«01_k».proof.Proof.KernelIdeal.Body
public import proofs.«01_k».proof.Proof.KernelIdeal.Pays
public import proofs.«01_k».proof.Proof.Model

/-! The stages of the second kernel call on one block of rows, as the problem's maths at the rows the block covers. -/

@[expose] public section

set_option maxRecDepth 16384
set_option maxHeartbeats 1000000

noncomputable section

namespace Cert.KernelIdeal.Hand

open Cert.KernelIdeal Cert.KernelIdeal.Gen Cert.Model
open Idealize.ShloMosaic

/-- The input blocks of a point are the arguments, read at the block's rows from `base` on. -/
structure BlkIs (p : Par) (sq : Fin 2) (base : ℕ) (b : Blk Ideal) : Prop where
  x : ∀ r k, b.x (ix3 0 r k) = p.x sq (base + r.val) k
  win : ∀ k j, b.win (ix2 k j) = p.win j k
  bin : ∀ j, b.bin (ix2 0 j) = p.bin j
  cw : ∀ q d, b.cw (ix2 q d) = p.cw d q
  cb : ∀ d, b.cb (ix2 0 d) = p.cb d
  wq : ∀ e j, b.wq (ix2 e j) = ∑ k : Fin 1024, p.w1 j (colC k) * p.wp k e
  bhead : ∀ q, b.bhead (ix2 0 q) = p.bh q
  wa : ∀ d (j : Fin 1024), b.wah (ix2 d ⟨j.val, by omega⟩) = p.w1 j (colA d)
  wh : ∀ d (q : Fin 3), b.wah (ix2 d ⟨1024 + q.val, by omega⟩) = p.wh q d
  wb : ∀ d j, b.wb (ix2 d j) = p.w1 j (colB d)
  bq : ∀ j, b.bq (ix2 0 j) = p.b1 j + ∑ k : Fin 1024, p.bp k * p.w1 j (colC k)
  w2 : ∀ k j, b.w2 (ix2 k j) = p.w2 j k
  b2 : ∀ j, b.b2 (ix2 0 j) = p.b2 j
  wout : ∀ k j, b.wout (ix2 k j) = p.wout j k
  bout : ∀ j, b.bout (ix2 0 j) = p.bout j

/-- What the scratch holds when a point that is not its sequence's first starts: per micro-step, the hidden rows just
    before the block. -/
def Carry (p : Par) (sq : Fin 2) (base : ℕ) (s : Vec Ideal S3x8x1024 .bf16) : Prop :=
  ∀ (n : Fin 3) (q : Fin 8) (d : Fin 1024), 4 ≤ q.val → s (ix3 n q d) = hid p (preK p) sq n.val (base + q.val - 8) d

section Loads
variable (b : Blk Ideal) (s : Vec Ideal S3x8x1024 .bf16)
/-- A whole load reads the block. -/
theorem ld_x (r k : Fin 1024) : View.ld b.x rX (ix3 0 r k) = b.x (ix3 0 r k) := by pointwise
/-- A whole load reads the block. -/
theorem ld_wide (r : Fin 1024) (k : Fin 1152) : View.ld b.wah rWide (ix2 r k) = b.wah (ix2 r k) := by pointwise
/-- A whole load reads the block. -/
theorem ld_win (r k : Fin 1024) : View.ld b.win rSq (ix2 r k) = b.win (ix2 r k) := by pointwise
/-- A whole load reads the block. -/
theorem ld_wq (r k : Fin 1024) : View.ld b.wq rSq (ix2 r k) = b.wq (ix2 r k) := by pointwise
/-- A whole load reads the block. -/
theorem ld_wb (r k : Fin 1024) : View.ld b.wb rSq (ix2 r k) = b.wb (ix2 r k) := by pointwise
/-- A whole load reads the block. -/
theorem ld_w2 (r k : Fin 1024) : View.ld b.w2 rSq (ix2 r k) = b.w2 (ix2 r k) := by pointwise
/-- A whole load reads the block. -/
theorem ld_wout (r k : Fin 1024) : View.ld b.wout rSq (ix2 r k) = b.wout (ix2 r k) := by pointwise
/-- A whole load reads the block. -/
theorem ld_bin (k : Fin 1024) : View.ld b.bin rRow (ix2 0 k) = b.bin (ix2 0 k) := by pointwise
/-- A whole load reads the block. -/
theorem ld_cb (k : Fin 1024) : View.ld b.cb rRow (ix2 0 k) = b.cb (ix2 0 k) := by pointwise
/-- A whole load reads the block. -/
theorem ld_bq (k : Fin 1024) : View.ld b.bq rRow (ix2 0 k) = b.bq (ix2 0 k) := by pointwise
/-- A whole load reads the block. -/
theorem ld_b2 (k : Fin 1024) : View.ld b.b2 rRow (ix2 0 k) = b.b2 (ix2 0 k) := by pointwise
/-- A whole load reads the block. -/
theorem ld_bout (k : Fin 1024) : View.ld b.bout rRow (ix2 0 k) = b.bout (ix2 0 k) := by pointwise
/-- A row of the mixing weights. -/
theorem ld_c0 (d : Fin 1024) : View.ld b.cw rC0 (ix2 0 d) = b.cw (ix2 0 d) := by pointwise
/-- A row of the mixing weights. -/
theorem ld_c1 (d : Fin 1024) : View.ld b.cw rC1 (ix2 0 d) = b.cw (ix2 1 d) := by pointwise
/-- A row of the mixing weights. -/
theorem ld_c2 (d : Fin 1024) : View.ld b.cw rC2 (ix2 0 d) = b.cw (ix2 2 d) := by pointwise
/-- A row of the mixing weights. -/
theorem ld_c3 (d : Fin 1024) : View.ld b.cw rC3 (ix2 0 d) = b.cw (ix2 3 d) := by pointwise
/-- A row of the mixing weights. -/
theorem ld_c4 (d : Fin 1024) : View.ld b.cw rC4 (ix2 0 d) = b.cw (ix2 4 d) := by pointwise
/-- An entry of the head bias. -/
theorem ld_h0 : View.ld b.bhead rH0 (ix2 0 0) = b.bhead (ix2 0 0) := by pointwise
/-- An entry of the head bias. -/
theorem ld_h1 : View.ld b.bhead rH1 (ix2 0 0) = b.bhead (ix2 0 1) := by pointwise
/-- An entry of the head bias. -/
theorem ld_h2 : View.ld b.bhead rH2 (ix2 0 0) = b.bhead (ix2 0 2) := by pointwise
/-- A micro-step's plane of the scratch. -/
theorem ld_t0 (q : Fin 8) (d : Fin 1024) : View.ld s rT0 (ix3 0 q d) = s (ix3 0 q d) := by pointwise
/-- A micro-step's plane of the scratch. -/
theorem ld_t1 (q : Fin 8) (d : Fin 1024) : View.ld s rT1 (ix3 0 q d) = s (ix3 1 q d) := by pointwise
/-- A micro-step's plane of the scratch. -/
theorem ld_t2 (q : Fin 8) (d : Fin 1024) : View.ld s rT2 (ix3 0 q d) = s (ix3 2 q d) := by pointwise
end Loads

/-- The joined rows at place `q` are the rows lagging the block's by four. -/
theorem lag_of (H : Rows) (i : grid1.Coords) (t : Fin 8 → Fin 1024 → EReal) (l : Fin 1024 → EReal) (j : Fin 1024)
    (hl : ∀ r : Fin 1024, l r = H ((i 1).val * 1024 + r.val) j)
    (ht : (i 1).val ≠ 0 → ∀ q : Fin 8, 4 ≤ q.val → t q j = H ((i 1).val * 1024 + q.val - 8) j) (q : Fin 1028) (a n : ℕ) (hq : a + n = q.val) :
    (if h : q.val < 4 then Scalar.select (isFirst i) (0 : EReal) (t ⟨4 + q.val, by omega⟩ j) else l ⟨q.val - 4, by omega⟩)
      = lag H ((i 1).val * 1024 + n) a j := by
  unfold lag
  by_cases h : q.val < 4
  · rw [dif_pos h]
    by_cases h0 : (i 1).val = 0
    · rw [isFirst, h0, if_pos (by omega)]
      rfl
    · have hne : isFirst i ≠ 1 := by
        have : (i 1).val < 2 := (i 1).isLt
        have e : (i 1).val = 1 := by omega
        rw [isFirst, e]; decide
      rw [Scalar.select_of_ne_one hne, if_neg (by omega), ht h0 ⟨4 + q.val, by omega⟩ (by simp)]
      congr 1
      simp only
      omega
  · rw [dif_neg h, if_neg (by omega), hl]
    congr 1
    simp only
    omega

/-- A phrase lies within a block. -/
theorem avg_of (H : Rows) (n : ℕ) (l : Fin 1024 → Fin 1024 → EReal) (hl : ∀ r d, l r d = H (n * 1024 + r.val) d) (r e : Fin 1024) :
    Ideal.div (∑ k : Fin 32, l ⟨r.val / 32 * 32 + k.val, by omega⟩ e) (Ideal.ofBits .f32 0x42000000#32)
      = avg H (n * 1024 + r.val) e := by
  unfold avg len
  congr 1
  refine Finset.sum_congr rfl fun k _ => ?_
  rw [hl]
  congr 1
  simp only
  omega

/-- The phrase part of the pre-activation. -/
def phrK (p : Par) (H : Rows) : Rows := fun r j =>
  (∑ e : Fin 1024, avg H r e * (∑ k : Fin 1024, p.w1 j (colC k) * p.wp k e)) + (p.b1 j + ∑ k : Fin 1024, p.bp k * p.w1 j (colC k))

section Stages
variable (p : Par) (sq : Fin 2) (i : grid1.Coords) (b : Blk Ideal) (s : Vec Ideal S3x8x1024 .bf16)
variable (hb : BlkIs p sq ((i 1).val * 1024) b) (hs : (i 1).val ≠ 0 → Carry p sq ((i 1).val * 1024) s)
include hb

/-- The joined matrix's column of head 0. -/
theorem head0_col (d : Fin 1024) : b.wah (ix2 d 1024) = p.wh 0 d := hb.wh d 0
/-- The joined matrix's column of head 1. -/
theorem head1_col (d : Fin 1024) : b.wah (ix2 d 1025) = p.wh 1 d := hb.wh d 1
/-- The joined matrix's column of head 2. -/
theorem head2_col (d : Fin 1024) : b.wah (ix2 d 1026) = p.wh 2 d := hb.wh d 2

/-- The hidden rows before the first micro-step. -/
theorem hid0_at (r j : Fin 1024) : hid0 b (ix2 r j) = hid p (preK p) sq 0 ((i 1).val * 1024 + r.val) j := by
  unfold hid0
  rw [pay3_at]
  simp only [ld_x, ld_win, ld_wb, ld_w2, ld_wout, ld_bin, ld_b2, ld_bout, hb.x, hb.win, hb.bin]
  rfl

/-- The narrowed rows entering the first micro-step. -/
theorem low0_at (r j : Fin 1024) : low0 b (ix2 r j) = hid p (preK p) sq 0 ((i 1).val * 1024 + r.val) j := by
  refine Eq.trans ?_ (hid0_at p sq i b hb r j)
  exact pay4_at _ _ _ _ _

/-- The phrase part of the first micro-step's pre-activation. -/
theorem phr0_at (r j : Fin 1024) : phr0 b (ix2 r j) = phrK p (hid p (preK p) sq 0) ((i 1).val * 1024 + r.val) j := by
  refine (pay11_at _ _ _ _ _).trans (congrArg₂ (· + ·) (Finset.sum_congr rfl fun e _ => congrArg₂ (· * ·)
    (avg_of (hid p (preK p) sq 0) (i 1).val (fun r d => low0 b (ix2 r d)) (low0_at p sq i b hb) r e) ?_) ?_)
  · rw [ld_wq]; exact hb.wq e j
  · rw [ld_bq]; exact hb.bq j

include hs

/-- The joined rows of the first micro-step, `a` places on. -/
theorem cat0_at (r j : Fin 1024) (a : ℕ) (h : a + r.val < 1028) :
    cat0 i b s (ix2 ⟨a + r.val, h⟩ j) = lag (hid p (preK p) sq 0) ((i 1).val * 1024 + r.val) a j := by
  refine (pay6_at _ _ _ _ _ _ _).trans ?_
  exact lag_of _ i (fun q d => View.ld s rT0 (ix3 0 q d)) (fun r => hid0 b (ix2 r j)) j (fun r => hid0_at p sq i b hb r j)
    (fun h0 q hq => by rw [ld_t0]; exact hs h0 0 q j hq) ⟨a + r.val, h⟩ a r.val rfl

/-- The mix of the first micro-step. -/
theorem mix0_at (r j : Fin 1024) : mix0 i b s (ix2 r j) = mix p (hid p (preK p) sq 0) ((i 1).val * 1024 + r.val) j := by
  have e := cat0_at p sq i b s hb hs r j
  have e0 := e 0 (by omega)
  simp only [Nat.zero_add] at e0
  have e1 := e 1 (by omega)
  unfold cat0 at e0 e1
  unfold mix0
  rw [pay10_at, e0, e1, e 2 (by omega), e 3 (by omega), e 4 (by omega)]
  simp only [ld_cb, ld_c0, ld_c1, ld_c2, ld_c3, ld_c4, hb.cb, hb.cw]
  rfl

/-- The hidden rows after the first micro-step. -/
theorem hid1_at (r j : Fin 1024) : hid1 i b s (ix2 r j) = hid p (preK p) sq 1 ((i 1).val * 1024 + r.val) j := by
  unfold hid1
  rw [pay14_at]
  unfold part0 joint0
  simp only [pay13_at, pay12_at]
  simp only [hid0_at p sq i b hb, low0_at p sq i b hb, mix0_at p sq i b s hb hs, phr0_at p sq i b hb, ld_win, ld_wb, ld_w2, ld_wout, ld_bin, ld_b2, ld_bout, ld_wide, ld_h2,
    hb.wa, hb.wb, hb.w2, hb.b2, hb.bhead, head2_col p sq i b hb]
  rfl

/-- The narrowed rows entering the second micro-step. -/
theorem low1_at (r j : Fin 1024) : low1 i b s (ix2 r j) = hid p (preK p) sq 1 ((i 1).val * 1024 + r.val) j := by
  refine Eq.trans ?_ (hid1_at p sq i b s hb hs r j)
  exact pay15_at _ _ _ _ _ _ _ _ _ _ _

/-- The phrase part of the second micro-step's pre-activation. -/
theorem phr1_at (r j : Fin 1024) : phr1 i b s (ix2 r j) = phrK p (hid p (preK p) sq 1) ((i 1).val * 1024 + r.val) j := by
  refine (pay21_at _ _ _ _ _).trans (congrArg₂ (· + ·) (Finset.sum_congr rfl fun e _ => congrArg₂ (· * ·)
    (avg_of (hid p (preK p) sq 1) (i 1).val (fun r d => low1 i b s (ix2 r d)) (low1_at p sq i b s hb hs) r e) ?_) ?_)
  · rw [ld_wq]; exact hb.wq e j
  · rw [ld_bq]; exact hb.bq j

/-- The joined rows of the second micro-step, `a` places on. -/
theorem cat1_at (r j : Fin 1024) (a : ℕ) (h : a + r.val < 1028) :
    cat1 i b s (ix2 ⟨a + r.val, h⟩ j) = lag (hid p (preK p) sq 1) ((i 1).val * 1024 + r.val) a j := by
  refine (pay17_at _ _ _ _ _ _ _ _ _ _ _ _ _).trans ?_
  exact lag_of _ i (fun q d => View.ld s rT1 (ix3 0 q d)) (fun r => hid1 i b s (ix2 r j)) j (fun r => hid1_at p sq i b s hb hs r j)
    (fun h0 q hq => by rw [ld_t1]; exact hs h0 1 q j hq) ⟨a + r.val, h⟩ a r.val rfl

/-- The mix of the second micro-step. -/
theorem mix1_at (r j : Fin 1024) : mix1 i b s (ix2 r j) = mix p (hid p (preK p) sq 1) ((i 1).val * 1024 + r.val) j := by
  have e := cat1_at p sq i b s hb hs r j
  have e0 := e 0 (by omega)
  simp only [Nat.zero_add] at e0
  unfold cat1 at e0
  unfold mix1
  rw [pay20_at, e0, e 1 (by omega), e 2 (by omega), e 3 (by omega), e 4 (by omega)]
  simp only [ld_cb, ld_c0, ld_c1, ld_c2, ld_c3, ld_c4, hb.cb, hb.cw]
  rfl

/-- The hidden rows after the second micro-step. -/
theorem hid2_at (r j : Fin 1024) : hid2 i b s (ix2 r j) = hid p (preK p) sq 2 ((i 1).val * 1024 + r.val) j := by
  unfold hid2
  rw [pay22_at]
  simp only [hid1_at p sq i b s hb hs, low1_at p sq i b s hb hs, mix1_at p sq i b s hb hs, phr1_at p sq i b s hb hs, ld_win, ld_wb, ld_w2, ld_wout, ld_bin, ld_b2, ld_bout, ld_wide, ld_h2,
    hb.wa, hb.wb, hb.w2, hb.b2, hb.bhead, head2_col p sq i b hb]
  rfl

/-- The narrowed rows entering the third micro-step. -/
theorem low2_at (r j : Fin 1024) : low2 i b s (ix2 r j) = hid p (preK p) sq 2 ((i 1).val * 1024 + r.val) j := by
  refine Eq.trans ?_ (hid2_at p sq i b s hb hs r j)
  exact pay23_at _ _ _ _ _ _ _ _ _ _ _

/-- The phrase part of the third micro-step's pre-activation. -/
theorem phr2_at (r j : Fin 1024) : phr2 i b s (ix2 ⟨r.val / 32, by omega⟩ j) + View.ld b.bq rRow (ix2 0 j) = phrK p (hid p (preK p) sq 2) ((i 1).val * 1024 + r.val) j := by
  refine congrArg₂ (· + ·) ((pay27_at _ _ _ _).trans (Finset.sum_congr rfl fun e _ => congrArg₂ (· * ·)
    (avg_of (hid p (preK p) sq 2) (i 1).val (fun r d => low2 i b s (ix2 r d)) (low2_at p sq i b s hb hs) r e) ?_)) ?_
  · rw [ld_wq]; exact hb.wq e j
  · rw [ld_bq]; exact hb.bq j

/-- The joined rows of the third micro-step, `a` places on. -/
theorem cat2_at (r j : Fin 1024) (a : ℕ) (h : a + r.val < 1028) :
    cat2 i b s (ix2 ⟨a + r.val, h⟩ j) = lag (hid p (preK p) sq 2) ((i 1).val * 1024 + r.val) a j := by
  refine (pay25_at _ _ _ _ _ _ _ _ _ _ _ _ _).trans ?_
  exact lag_of _ i (fun q d => View.ld s rT2 (ix3 0 q d)) (fun r => hid2 i b s (ix2 r j)) j (fun r => hid2_at p sq i b s hb hs r j)
    (fun h0 q hq => by rw [ld_t2]; exact hs h0 2 q j hq) ⟨a + r.val, h⟩ a r.val rfl

/-- The mix of the third micro-step. -/
theorem mix2_at (r j : Fin 1024) : mix2 i b s (ix2 r j) = mix p (hid p (preK p) sq 2) ((i 1).val * 1024 + r.val) j := by
  have e := cat2_at p sq i b s hb hs r j
  have e0 := e 0 (by omega)
  simp only [Nat.zero_add] at e0
  unfold mix2
  rw [pay26_at, e0, e 1 (by omega), e 2 (by omega), e 3 (by omega), e 4 (by omega)]
  simp only [ld_cb, ld_c0, ld_c1, ld_c2, ld_c3, ld_c4, hb.cb, hb.cw]
  rfl

/-- The third micro-step's update before its gate. -/
theorem upd2_at (r j : Fin 1024) : upd2 i b s (ix2 r j) = upd p (preK p (hid p (preK p) sq 2)) ((i 1).val * 1024 + r.val) j := by
  unfold upd2
  rw [pay30_at]
  simp only [phr2_at p sq i b s hb hs]
  simp only [low2_at p sq i b s hb hs, mix2_at p sq i b s hb hs, ld_win, ld_wb, ld_w2, ld_wout, ld_bin, ld_b2, ld_bout, ld_wide, hb.wa, hb.wb, hb.w2, hb.b2]
  rfl

/-- The halting gate of the third micro-step. -/
theorem gate2_at (r : Fin 1024) : gate2 i b s (ix2 r 0) = head p (hid p (preK p) sq 2) 2 ((i 1).val * 1024 + r.val) := by
  unfold gate2
  rw [pay31_at]
  simp only [low2_at p sq i b s hb hs, ld_wide, ld_h2, hb.bhead, head2_col p sq i b hb]
  rfl

/-- The block of the result holds the result's rows. -/
theorem outB_at (r j : Fin 1024) : outB i b s (ix3 0 r j) = out p (preK p) sq ((i 1).val * 1024 + r.val) j := by
  unfold outB rows
  rw [pay1_at]
  simp only [hid2_at p sq i b s hb hs, upd2_at p sq i b s hb hs, gate2_at p sq i b s hb hs, ld_x, ld_win, ld_wb, ld_w2, ld_wout, ld_bin, ld_b2, ld_bout, hb.x, hb.wout, hb.bout]
  rfl

/-- The block's salience sum. -/
theorem salB_at : salB i b s (ix4 0 0 0 0) = ∑ r : Fin 1024, head p (hid p (preK p) sq 2) 0 ((i 1).val * 1024 + r.val) := by
  unfold salB
  rw [pay34_at]
  simp only [low2_at p sq i b s hb hs, ld_wide, ld_h0, hb.bhead, head0_col p sq i b hb]
  rfl

/-- The block's uncertainty sum. -/
theorem uncB_at : uncB i b s (ix4 0 0 0 0) = ∑ r : Fin 1024, head p (hid p (preK p) sq 2) 1 ((i 1).val * 1024 + r.val) := by
  unfold uncB
  rw [pay35_at]
  simp only [low2_at p sq i b s hb hs, ld_wide, ld_h1, hb.bhead, head1_col p sq i b hb]
  rfl

/-- The block's halting sum. -/
theorem haltB_at : haltB i b s (ix4 0 0 0 0) = ∑ r : Fin 1024, head p (hid p (preK p) sq 2) 2 ((i 1).val * 1024 + r.val) := by
  unfold haltB
  rw [pay36_at]
  simp only [gate2_at p sq i b s hb hs]

/-- The scratch after the body: each micro-step's last eight rows. -/
theorem tailsB_at (n : Fin 3) (q : Fin 8) (d : Fin 1024) :
    tailsB i b s (ix3 n q d) = hid p (preK p) sq n.val ((i 1).val * 1024 + (1016 + q.val)) d := by
  let G : Vec Ideal S3x8x1024 .bf16 := fun y => hid p (preK p) sq (y 0).val ((i 1).val * 1024 + (1016 + (y 1).val)) (y 2)
  have e0 : ∀ (q : Fin 8) (d : Fin 1024), View.ld G rT0 (ix3 0 q d) = G (ix3 0 q d) := fun q d => ld_t0 G q d
  have e1 : ∀ (q : Fin 8) (d : Fin 1024), View.ld G rT1 (ix3 0 q d) = G (ix3 1 q d) := fun q d => ld_t1 G q d
  have e2 : ∀ (q : Fin 8) (d : Fin 1024), View.ld G rT2 (ix3 0 q d) = G (ix3 2 q d) := fun q d => ld_t2 G q d
  have hx : ∀ x : S1x8x1024.Idx, ∃ (q : Fin 8) (d : Fin 1024), x = ix3 0 q d := fun x => ⟨x 1, x 2, by
    refine (eq_ix3 x).trans ?_
    congr 1
    exact Subsingleton.elim (α := Fin 1) _ _⟩
  unfold tailsB
  rw [View.canon_apply_of_pieces G _ ?_ _ (tails_cover _ _ _ _)]
  · rfl
  · intro pc hpc
    simp only [List.mem_cons, List.not_mem_nil, or_false] at hpc
    rcases hpc with rfl | rfl | rfl
    · intro x
      obtain ⟨q, d, rfl⟩ := hx x
      exact (pay24_at _ _ _ _ _ _ _ _ _ _ _).trans ((hid2_at p sq i b s hb hs _ _).trans (e2 q d).symm)
    · intro x
      obtain ⟨q, d, rfl⟩ := hx x
      exact (pay16_at _ _ _ _ _ _ _ _ _ _ _).trans ((hid1_at p sq i b s hb hs _ _).trans (e1 q d).symm)
    · intro x
      obtain ⟨q, d, rfl⟩ := hx x
      exact (pay5_at _ _ _ _ _).trans ((hid0_at p sq i b hb _ _).trans (e0 q d).symm)

end Stages

end Cert.KernelIdeal.Hand
-- ==== Proof.KernelIdeal.Entry.lean ====
module

public import proofs.«01_k».proof.Proof.KernelIdeal.Run
public import proofs.«01_k».proof.Proof.KernelIdeal.Stages
public import Idealize.ShloMosaic.Lib.Pipeline.Value

/-! What the second kernel call is entered with: the arguments, the host's reshapes and casts of them, and the weights the
first call prepared. -/

@[expose] public section

set_option maxRecDepth 16384
set_option maxHeartbeats 1000000

noncomputable section

namespace Cert.KernelIdeal.Hand

open Cert.KernelIdeal Cert.KernelIdeal.Gen Cert.Model
open Idealize.ShloMosaic Idealize.ShloMosaic.TcCoe
open Idealize.ShloMosaic.Pipeline (Dat Cfg Window)

variable {F : FTy → Type} [FloatOps F]

/-- Zero offsets. -/
theorem z2 : (![0, 0] : Fin 2 → Nat) = fun _ => 0 := funext fun a => by fin_cases a <;> rfl
/-- Zero offsets. -/
theorem z3 : (![0, 0, 0] : Fin 3 → Nat) = fun _ => 0 := funext fun a => by fin_cases a <;> rfl
/-- Zero offsets. -/
theorem z4 : (![0, 0, 0, 0] : Fin 4 → Nat) = fun _ => 0 := funext fun a => by fin_cases a <;> rfl

section Regions
variable (V : (c : Dev nD) → (b : Ref sig .tc) → Buf (Elt F) ((c : Thread nD τ).loc b))

/-- The first call's block of window 0 is the array. -/
theorem prepBlk_0 (c : Dev nD) (t : Fin cfg0.N) : prepBlk V c 0 t = V c main_arg1 := by
  funext x
  show V c main_arg1 ((win0_0.rect t).emb x) = V c main_arg1 x
  exact congrArg (V c main_arg1) (funext fun a => Fin.ext (Window.rect_emb_val_of_index_zero win0_0 t a rfl x))
/-- The first call's block of window 1 is the array. -/
theorem prepBlk_1 (c : Dev nD) (t : Fin cfg0.N) : prepBlk V c 1 t = V c main_arg5 := by
  funext x
  show V c main_arg5 ((win0_1.rect t).emb x) = V c main_arg5 x
  exact congrArg (V c main_arg5) (funext fun a => Fin.ext (Window.rect_emb_val_of_index_zero win0_1 t a rfl x))
/-- The first call's block of window 2 is the array. -/
theorem prepBlk_2 (c : Dev nD) (t : Fin cfg0.N) : prepBlk V c 2 t = V c main_arg9 := by
  funext x
  show V c main_arg9 ((win0_2.rect t).emb x) = V c main_arg9 x
  exact congrArg (V c main_arg9) (funext fun a => Fin.ext (Window.rect_emb_val_of_index_zero win0_2 t a rfl x))
/-- The first call's block of window 3 is the array. -/
theorem prepBlk_3 (c : Dev nD) (t : Fin cfg0.N) : prepBlk V c 3 t = V c main_arg7 := by
  funext x
  show V c main_arg7 ((win0_3.rect t).emb x) = V c main_arg7 x
  exact congrArg (V c main_arg7) (funext fun a => Fin.ext (Window.rect_emb_val_of_index_zero win0_3 t a rfl x))
/-- The first call's block of window 4 is the array. -/
theorem prepBlk_4 (c : Dev nD) (t : Fin cfg0.N) : prepBlk V c 4 t = V c main_arg11 := by
  funext x
  show V c main_arg11 ((win0_4.rect t).emb x) = V c main_arg11 x
  exact congrArg (V c main_arg11) (funext fun a => Fin.ext (Window.rect_emb_val_of_index_zero win0_4 t a rfl x))
/-- The first call's block of window 5 is the array. -/
theorem prepBlk_5 (c : Dev nD) (t : Fin cfg0.N) : prepBlk V c 5 t = V c main_arg13 := by
  funext x
  show V c main_arg13 ((win0_5.rect t).emb x) = V c main_arg13 x
  exact congrArg (V c main_arg13) (funext fun a => Fin.ext (Window.rect_emb_val_of_index_zero win0_5 t a rfl x))
/-- The first call's block of window 6 is the array. -/
theorem prepBlk_6 (c : Dev nD) (t : Fin cfg0.N) : prepBlk V c 6 t = V c main_v4 := by
  funext x
  show V c main_v4 ((win0_6.rect t).emb x) = V c main_v4 x
  exact congrArg (V c main_v4) (funext fun a => Fin.ext (Window.rect_emb_val_of_index_zero win0_6 t a rfl x))
/-- The first call's block of window 7 is the array. -/
theorem prepBlk_7 (c : Dev nD) (t : Fin cfg0.N) : prepBlk V c 7 t = V c main_v5 := by
  funext x
  show V c main_v5 ((win0_7.rect t).emb x) = V c main_v5 x
  exact congrArg (V c main_v5) (funext fun a => Fin.ext (Window.rect_emb_val_of_index_zero win0_7 t a rfl x))

/-- What the first call writes back through window 8. -/
theorem prep_flushed_8 (c : Dev nD) (t : Fin cfg0.N) :
    (prepDat V c).flushed 8 t = (win0_8.blk t).view.read (Elt F) (k0_pay3 (V c main_arg1)) := by
  show (cfg0.win 8).cut (grid0.coords t) ((prepDat V c).after 8 t) = _
  rw [prep_after_8]
  unfold prepOut8
  rw [View.canon_unit_zero z2, View.ld_unit_zero z2, prepBlk_0]
  funext x
  show (k0_pay3 (V c main_arg1)) x = (k0_pay3 (V c main_arg1)) ((win0_8.rect t).emb x)
  exact congrArg (k0_pay3 (V c main_arg1)) (funext fun a => Fin.ext (Window.rect_emb_val_of_index_zero win0_8 t a rfl x).symm)

/-- Its one block is its result 0. -/
theorem prep_mem_8 (t : Fin cfg0.N) (i : S1024x1024.Idx) : i ∈ ((cfg0.win 8).blk t).view.set := by
  show i ∈ ((View.whole main_v6_0).slice (win0_8.rect t)).set
  rw [View.set_slice_whole, Rect.mem_set_unit]
  intro a
  have h := (i a).isLt
  have e0 : win0_8.index t a * win0_8.size a = 0 := Nat.zero_mul _
  have e1 : win0_8.xsize (grid0.coords t) a = S1024x1024.size a := by fin_cases a <;> rfl
  exact ⟨by rw [show win0_8.kind.off (win0_8.index t a) (win0_8.size a) = 0 from e0]; exact Nat.zero_le _,
    by rw [show win0_8.kind.off (win0_8.index t a) (win0_8.size a) = 0 from e0, e1, Nat.zero_add]; exact h⟩

/-- What the first call leaves in its result 0. -/
theorem prep_arr_8 (c : Dev nD) : (prepDat V c).arrAt 8 cfg0.N = (k0_pay3 (V c main_arg1)) :=
  (prepDat V c).arrAt_eq_of_cover 8 (k0_pay3 (V c main_arg1)) (fun t _ => prep_flushed_8 V c t) fun i =>
    ⟨⟨0, by decide⟩, flush0_8 _, prep_mem_8 _ i⟩

/-- What the first call writes back through window 9. -/
theorem prep_flushed_9 (c : Dev nD) (t : Fin cfg0.N) :
    (prepDat V c).flushed 9 t = (win0_9.blk t).view.read (Elt F) (k0_pay4 (View.ld (V c main_arg9) prepR0) (V c main_arg5)) := by
  show (cfg0.win 9).cut (grid0.coords t) ((prepDat V c).after 9 t) = _
  rw [prep_after_9]
  unfold prepOut9
  rw [View.canon_unit_zero z2, View.ld_unit_zero z2, prepBlk_2, prepBlk_1]
  funext x
  show (k0_pay4 (View.ld (V c main_arg9) prepR0) (V c main_arg5)) x = (k0_pay4 (View.ld (V c main_arg9) prepR0) (V c main_arg5)) ((win0_9.rect t).emb x)
  exact congrArg (k0_pay4 (View.ld (V c main_arg9) prepR0) (V c main_arg5)) (funext fun a => Fin.ext (Window.rect_emb_val_of_index_zero win0_9 t a rfl x).symm)

/-- Its one block is its result 1. -/
theorem prep_mem_9 (t : Fin cfg0.N) (i : S1024x1024.Idx) : i ∈ ((cfg0.win 9).blk t).view.set := by
  show i ∈ ((View.whole main_v6_1).slice (win0_9.rect t)).set
  rw [View.set_slice_whole, Rect.mem_set_unit]
  intro a
  have h := (i a).isLt
  have e0 : win0_9.index t a * win0_9.size a = 0 := Nat.zero_mul _
  have e1 : win0_9.xsize (grid0.coords t) a = S1024x1024.size a := by fin_cases a <;> rfl
  exact ⟨by rw [show win0_9.kind.off (win0_9.index t a) (win0_9.size a) = 0 from e0]; exact Nat.zero_le _,
    by rw [show win0_9.kind.off (win0_9.index t a) (win0_9.size a) = 0 from e0, e1, Nat.zero_add]; exact h⟩

/-- What the first call leaves in its result 1. -/
theorem prep_arr_9 (c : Dev nD) : (prepDat V c).arrAt 9 cfg0.N = (k0_pay4 (View.ld (V c main_arg9) prepR0) (V c main_arg5)) :=
  (prepDat V c).arrAt_eq_of_cover 9 (k0_pay4 (View.ld (V c main_arg9) prepR0) (V c main_arg5)) (fun t _ => prep_flushed_9 V c t) fun i =>
    ⟨⟨0, by decide⟩, flush0_9 _, prep_mem_9 _ i⟩

/-- What the first call writes back through window 10. -/
theorem prep_flushed_10 (c : Dev nD) (t : Fin cfg0.N) :
    (prepDat V c).flushed 10 t = (win0_10.blk t).view.read (Elt F) (k0_pay5 (View.ld (V c main_arg9) prepR2) (V c main_arg7)) := by
  show (cfg0.win 10).cut (grid0.coords t) ((prepDat V c).after 10 t) = _
  rw [prep_after_10]
  unfold prepOut10
  rw [View.canon_unit_zero z2, View.ld_unit_zero z2, prepBlk_2, prepBlk_3]
  funext x
  show (k0_pay5 (View.ld (V c main_arg9) prepR2) (V c main_arg7)) x = (k0_pay5 (View.ld (V c main_arg9) prepR2) (V c main_arg7)) ((win0_10.rect t).emb x)
  exact congrArg (k0_pay5 (View.ld (V c main_arg9) prepR2) (V c main_arg7)) (funext fun a => Fin.ext (Window.rect_emb_val_of_index_zero win0_10 t a rfl x).symm)

/-- Its one block is its result 2. -/
theorem prep_mem_10 (t : Fin cfg0.N) (i : S1024x1152.Idx) : i ∈ ((cfg0.win 10).blk t).view.set := by
  show i ∈ ((View.whole main_v6_2).slice (win0_10.rect t)).set
  rw [View.set_slice_whole, Rect.mem_set_unit]
  intro a
  have h := (i a).isLt
  have e0 : win0_10.index t a * win0_10.size a = 0 := Nat.zero_mul _
  have e1 : win0_10.xsize (grid0.coords t) a = S1024x1152.size a := by fin_cases a <;> rfl
  exact ⟨by rw [show win0_10.kind.off (win0_10.index t a) (win0_10.size a) = 0 from e0]; exact Nat.zero_le _,
    by rw [show win0_10.kind.off (win0_10.index t a) (win0_10.size a) = 0 from e0, e1, Nat.zero_add]; exact h⟩

/-- What the first call leaves in its result 2. -/
theorem prep_arr_10 (c : Dev nD) : (prepDat V c).arrAt 10 cfg0.N = (k0_pay5 (View.ld (V c main_arg9) prepR2) (V c main_arg7)) :=
  (prepDat V c).arrAt_eq_of_cover 10 (k0_pay5 (View.ld (V c main_arg9) prepR2) (V c main_arg7)) (fun t _ => prep_flushed_10 V c t) fun i =>
    ⟨⟨0, by decide⟩, flush0_10 _, prep_mem_10 _ i⟩

/-- What the first call writes back through window 11. -/
theorem prep_flushed_11 (c : Dev nD) (t : Fin cfg0.N) :
    (prepDat V c).flushed 11 t = (win0_11.blk t).view.read (Elt F) (k0_pay6 (View.ld (V c main_arg9) prepR5)) := by
  show (cfg0.win 11).cut (grid0.coords t) ((prepDat V c).after 11 t) = _
  rw [prep_after_11]
  unfold prepOut11
  rw [View.canon_unit_zero z2, prepBlk_2]
  funext x
  show (k0_pay6 (View.ld (V c main_arg9) prepR5)) x = (k0_pay6 (View.ld (V c main_arg9) prepR5)) ((win0_11.rect t).emb x)
  exact congrArg (k0_pay6 (View.ld (V c main_arg9) prepR5)) (funext fun a => Fin.ext (Window.rect_emb_val_of_index_zero win0_11 t a rfl x).symm)

/-- Its one block is its result 3. -/
theorem prep_mem_11 (t : Fin cfg0.N) (i : S1024x1024.Idx) : i ∈ ((cfg0.win 11).blk t).view.set := by
  show i ∈ ((View.whole main_v6_3).slice (win0_11.rect t)).set
  rw [View.set_slice_whole, Rect.mem_set_unit]
  intro a
  have h := (i a).isLt
  have e0 : win0_11.index t a * win0_11.size a = 0 := Nat.zero_mul _
  have e1 : win0_11.xsize (grid0.coords t) a = S1024x1024.size a := by fin_cases a <;> rfl
  exact ⟨by rw [show win0_11.kind.off (win0_11.index t a) (win0_11.size a) = 0 from e0]; exact Nat.zero_le _,
    by rw [show win0_11.kind.off (win0_11.index t a) (win0_11.size a) = 0 from e0, e1, Nat.zero_add]; exact h⟩

/-- What the first call leaves in its result 3. -/
theorem prep_arr_11 (c : Dev nD) : (prepDat V c).arrAt 11 cfg0.N = (k0_pay6 (View.ld (V c main_arg9) prepR5)) :=
  (prepDat V c).arrAt_eq_of_cover 11 (k0_pay6 (View.ld (V c main_arg9) prepR5)) (fun t _ => prep_flushed_11 V c t) fun i =>
    ⟨⟨0, by decide⟩, flush0_11 _, prep_mem_11 _ i⟩

/-- What the first call writes back through window 12. -/
theorem prep_flushed_12 (c : Dev nD) (t : Fin cfg0.N) :
    (prepDat V c).flushed 12 t = (win0_12.blk t).view.read (Elt F) (k0_pay7 (V c main_arg11)) := by
  show (cfg0.win 12).cut (grid0.coords t) ((prepDat V c).after 12 t) = _
  rw [prep_after_12]
  unfold prepOut12
  rw [View.canon_unit_zero z2, View.ld_unit_zero z2, prepBlk_4]
  funext x
  show (k0_pay7 (V c main_arg11)) x = (k0_pay7 (V c main_arg11)) ((win0_12.rect t).emb x)
  exact congrArg (k0_pay7 (V c main_arg11)) (funext fun a => Fin.ext (Window.rect_emb_val_of_index_zero win0_12 t a rfl x).symm)

/-- Its one block is its result 4. -/
theorem prep_mem_12 (t : Fin cfg0.N) (i : S1024x1024.Idx) : i ∈ ((cfg0.win 12).blk t).view.set := by
  show i ∈ ((View.whole main_v6_4).slice (win0_12.rect t)).set
  rw [View.set_slice_whole, Rect.mem_set_unit]
  intro a
  have h := (i a).isLt
  have e0 : win0_12.index t a * win0_12.size a = 0 := Nat.zero_mul _
  have e1 : win0_12.xsize (grid0.coords t) a = S1024x1024.size a := by fin_cases a <;> rfl
  exact ⟨by rw [show win0_12.kind.off (win0_12.index t a) (win0_12.size a) = 0 from e0]; exact Nat.zero_le _,
    by rw [show win0_12.kind.off (win0_12.index t a) (win0_12.size a) = 0 from e0, e1, Nat.zero_add]; exact h⟩

/-- What the first call leaves in its result 4. -/
theorem prep_arr_12 (c : Dev nD) : (prepDat V c).arrAt 12 cfg0.N = (k0_pay7 (V c main_arg11)) :=
  (prepDat V c).arrAt_eq_of_cover 12 (k0_pay7 (V c main_arg11)) (fun t _ => prep_flushed_12 V c t) fun i =>
    ⟨⟨0, by decide⟩, flush0_12 _, prep_mem_12 _ i⟩

/-- What the first call writes back through window 13. -/
theorem prep_flushed_13 (c : Dev nD) (t : Fin cfg0.N) :
    (prepDat V c).flushed 13 t = (win0_13.blk t).view.read (Elt F) (k0_pay1 (V c main_arg13)) := by
  show (cfg0.win 13).cut (grid0.coords t) ((prepDat V c).after 13 t) = _
  rw [prep_after_13]
  unfold prepOut13
  rw [View.canon_unit_zero z2, View.ld_unit_zero z2, prepBlk_5]
  funext x
  show (k0_pay1 (V c main_arg13)) x = (k0_pay1 (V c main_arg13)) ((win0_13.rect t).emb x)
  exact congrArg (k0_pay1 (V c main_arg13)) (funext fun a => Fin.ext (Window.rect_emb_val_of_index_zero win0_13 t a rfl x).symm)

/-- Its one block is its result 5. -/
theorem prep_mem_13 (t : Fin cfg0.N) (i : S1024x1024.Idx) : i ∈ ((cfg0.win 13).blk t).view.set := by
  show i ∈ ((View.whole main_v6_5).slice (win0_13.rect t)).set
  rw [View.set_slice_whole, Rect.mem_set_unit]
  intro a
  have h := (i a).isLt
  have e0 : win0_13.index t a * win0_13.size a = 0 := Nat.zero_mul _
  have e1 : win0_13.xsize (grid0.coords t) a = S1024x1024.size a := by fin_cases a <;> rfl
  exact ⟨by rw [show win0_13.kind.off (win0_13.index t a) (win0_13.size a) = 0 from e0]; exact Nat.zero_le _,
    by rw [show win0_13.kind.off (win0_13.index t a) (win0_13.size a) = 0 from e0, e1, Nat.zero_add]; exact h⟩

/-- What the first call leaves in its result 5. -/
theorem prep_arr_13 (c : Dev nD) : (prepDat V c).arrAt 13 cfg0.N = (k0_pay1 (V c main_arg13)) :=
  (prepDat V c).arrAt_eq_of_cover 13 (k0_pay1 (V c main_arg13)) (fun t _ => prep_flushed_13 V c t) fun i =>
    ⟨⟨0, by decide⟩, flush0_13 _, prep_mem_13 _ i⟩

/-- What the first call writes back through window 14. -/
theorem prep_flushed_14 (c : Dev nD) (t : Fin cfg0.N) :
    (prepDat V c).flushed 14 t = (win0_14.blk t).view.read (Elt F) (k0_pay2 (View.ld (V c main_arg9) prepR0) (V c main_v5) (V c main_v4)) := by
  show (cfg0.win 14).cut (grid0.coords t) ((prepDat V c).after 14 t) = _
  rw [prep_after_14]
  unfold prepOut14
  rw [View.canon_unit_zero z2, View.ld_unit_zero z2, View.ld_unit_zero z2, prepBlk_2, prepBlk_7, prepBlk_6]
  funext x
  show (k0_pay2 (View.ld (V c main_arg9) prepR0) (V c main_v5) (V c main_v4)) x = (k0_pay2 (View.ld (V c main_arg9) prepR0) (V c main_v5) (V c main_v4)) ((win0_14.rect t).emb x)
  exact congrArg (k0_pay2 (View.ld (V c main_arg9) prepR0) (V c main_v5) (V c main_v4)) (funext fun a => Fin.ext (Window.rect_emb_val_of_index_zero win0_14 t a rfl x).symm)

/-- Its one block is its result 6. -/
theorem prep_mem_14 (t : Fin cfg0.N) (i : S1x1024.Idx) : i ∈ ((cfg0.win 14).blk t).view.set := by
  show i ∈ ((View.whole main_v6_6).slice (win0_14.rect t)).set
  rw [View.set_slice_whole, Rect.mem_set_unit]
  intro a
  have h := (i a).isLt
  have e0 : win0_14.index t a * win0_14.size a = 0 := Nat.zero_mul _
  have e1 : win0_14.xsize (grid0.coords t) a = S1x1024.size a := by fin_cases a <;> rfl
  exact ⟨by rw [show win0_14.kind.off (win0_14.index t a) (win0_14.size a) = 0 from e0]; exact Nat.zero_le _,
    by rw [show win0_14.kind.off (win0_14.index t a) (win0_14.size a) = 0 from e0, e1, Nat.zero_add]; exact h⟩

/-- What the first call leaves in its result 6. -/
theorem prep_arr_14 (c : Dev nD) : (prepDat V c).arrAt 14 cfg0.N = (k0_pay2 (View.ld (V c main_arg9) prepR0) (V c main_v5) (V c main_v4)) :=
  (prepDat V c).arrAt_eq_of_cover 14 (k0_pay2 (View.ld (V c main_arg9) prepR0) (V c main_v5) (V c main_v4)) (fun t _ => prep_flushed_14 V c t) fun i =>
    ⟨⟨0, by decide⟩, flush0_14 _, prep_mem_14 _ i⟩

/-- The second call's block of window 1 is the array. -/
theorem blockBlk_1 (c : Dev nD) (t : Fin cfg1.N) : blockBlk V c 1 t = V c main_v6_0 := by
  funext x
  show V c main_v6_0 ((win1_1.rect t).emb x) = V c main_v6_0 x
  exact congrArg (V c main_v6_0) (funext fun a => Fin.ext (Window.rect_emb_val_of_index_zero win1_1 t a (by fin_cases a <;> rfl) x))

/-- The second call's block of window 2 is the array. -/
theorem blockBlk_2 (c : Dev nD) (t : Fin cfg1.N) : blockBlk V c 2 t = V c main_v7 := by
  funext x
  show V c main_v7 ((win1_2.rect t).emb x) = V c main_v7 x
  exact congrArg (V c main_v7) (funext fun a => Fin.ext (Window.rect_emb_val_of_index_zero win1_2 t a (by fin_cases a <;> rfl) x))

/-- The second call's block of window 3 is the array. -/
theorem blockBlk_3 (c : Dev nD) (t : Fin cfg1.N) : blockBlk V c 3 t = V c main_v1 := by
  funext x
  show V c main_v1 ((win1_3.rect t).emb x) = V c main_v1 x
  exact congrArg (V c main_v1) (funext fun a => Fin.ext (Window.rect_emb_val_of_index_zero win1_3 t a (by fin_cases a <;> rfl) x))

/-- The second call's block of window 4 is the array. -/
theorem blockBlk_4 (c : Dev nD) (t : Fin cfg1.N) : blockBlk V c 4 t = V c main_v3 := by
  funext x
  show V c main_v3 ((win1_4.rect t).emb x) = V c main_v3 x
  exact congrArg (V c main_v3) (funext fun a => Fin.ext (Window.rect_emb_val_of_index_zero win1_4 t a (by fin_cases a <;> rfl) x))

/-- The second call's block of window 5 is the array. -/
theorem blockBlk_5 (c : Dev nD) (t : Fin cfg1.N) : blockBlk V c 5 t = V c main_v6_1 := by
  funext x
  show V c main_v6_1 ((win1_5.rect t).emb x) = V c main_v6_1 x
  exact congrArg (V c main_v6_1) (funext fun a => Fin.ext (Window.rect_emb_val_of_index_zero win1_5 t a (by fin_cases a <;> rfl) x))

/-- The second call's block of window 6 is the array. -/
theorem blockBlk_6 (c : Dev nD) (t : Fin cfg1.N) : blockBlk V c 6 t = V c main_v8 := by
  funext x
  show V c main_v8 ((win1_6.rect t).emb x) = V c main_v8 x
  exact congrArg (V c main_v8) (funext fun a => Fin.ext (Window.rect_emb_val_of_index_zero win1_6 t a (by fin_cases a <;> rfl) x))

/-- The second call's block of window 7 is the array. -/
theorem blockBlk_7 (c : Dev nD) (t : Fin cfg1.N) : blockBlk V c 7 t = V c main_v6_2 := by
  funext x
  show V c main_v6_2 ((win1_7.rect t).emb x) = V c main_v6_2 x
  exact congrArg (V c main_v6_2) (funext fun a => Fin.ext (Window.rect_emb_val_of_index_zero win1_7 t a (by fin_cases a <;> rfl) x))

/-- The second call's block of window 8 is the array. -/
theorem blockBlk_8 (c : Dev nD) (t : Fin cfg1.N) : blockBlk V c 8 t = V c main_v6_3 := by
  funext x
  show V c main_v6_3 ((win1_8.rect t).emb x) = V c main_v6_3 x
  exact congrArg (V c main_v6_3) (funext fun a => Fin.ext (Window.rect_emb_val_of_index_zero win1_8 t a (by fin_cases a <;> rfl) x))

/-- The second call's block of window 9 is the array. -/
theorem blockBlk_9 (c : Dev nD) (t : Fin cfg1.N) : blockBlk V c 9 t = V c main_v6_6 := by
  funext x
  show V c main_v6_6 ((win1_9.rect t).emb x) = V c main_v6_6 x
  exact congrArg (V c main_v6_6) (funext fun a => Fin.ext (Window.rect_emb_val_of_index_zero win1_9 t a (by fin_cases a <;> rfl) x))

/-- The second call's block of window 10 is the array. -/
theorem blockBlk_10 (c : Dev nD) (t : Fin cfg1.N) : blockBlk V c 10 t = V c main_v6_4 := by
  funext x
  show V c main_v6_4 ((win1_10.rect t).emb x) = V c main_v6_4 x
  exact congrArg (V c main_v6_4) (funext fun a => Fin.ext (Window.rect_emb_val_of_index_zero win1_10 t a (by fin_cases a <;> rfl) x))

/-- The second call's block of window 11 is the array. -/
theorem blockBlk_11 (c : Dev nD) (t : Fin cfg1.N) : blockBlk V c 11 t = V c main_v9 := by
  funext x
  show V c main_v9 ((win1_11.rect t).emb x) = V c main_v9 x
  exact congrArg (V c main_v9) (funext fun a => Fin.ext (Window.rect_emb_val_of_index_zero win1_11 t a (by fin_cases a <;> rfl) x))

/-- The second call's block of window 12 is the array. -/
theorem blockBlk_12 (c : Dev nD) (t : Fin cfg1.N) : blockBlk V c 12 t = V c main_v6_5 := by
  funext x
  show V c main_v6_5 ((win1_12.rect t).emb x) = V c main_v6_5 x
  exact congrArg (V c main_v6_5) (funext fun a => Fin.ext (Window.rect_emb_val_of_index_zero win1_12 t a (by fin_cases a <;> rfl) x))

/-- The second call's block of window 13 is the array. -/
theorem blockBlk_13 (c : Dev nD) (t : Fin cfg1.N) : blockBlk V c 13 t = V c main_v10 := by
  funext x
  show V c main_v10 ((win1_13.rect t).emb x) = V c main_v10 x
  exact congrArg (V c main_v10) (funext fun a => Fin.ext (Window.rect_emb_val_of_index_zero win1_13 t a (by fin_cases a <;> rfl) x))

/-- The second call's block of the rows: those of one half of one sequence. -/
theorem blockBlk_0 (c : Dev nD) (t : Fin cfg1.N) (r k : Fin 1024) (h : (grid1.coords t 1).val * 1024 + r.val < 2048) :
    blockBlk V c 0 t (ix3 0 r k) = V c main_arg0 (ix3 (grid1.coords t 0) ⟨(grid1.coords t 1).val * 1024 + r.val, h⟩ k) := by
  show V c main_arg0 ((win1_0.rect t).emb (ix3 0 r k)) = _
  refine congrArg (V c main_arg0) (funext fun a => Fin.ext ?_)
  rw [Window.rect_emb_val win1_0 t (ix3 0 r k) a]
  have h0 : (grid1.coords t 0).val < 2 := (grid1.coords t 0).isLt
  have h1 : (grid1.coords t 1).val < 2 := (grid1.coords t 1).isLt
  match a with
  | ⟨0, _⟩ =>
    show (BitVec.ofNat 32 (grid1.coords t 0).val).toNat * 1 + 0 = (grid1.coords t 0).val
    rw [BitVec.toNat_ofNat]; omega
  | ⟨1, _⟩ =>
    show (BitVec.ofNat 32 (grid1.coords t 1).val).toNat * 1024 + r.val = (grid1.coords t 1).val * 1024 + r.val
    rw [BitVec.toNat_ofNat]; omega
  | ⟨2, _⟩ =>
    show 0 * 1024 + k.val = k.val
    omega
end Regions

variable (m : (ℓ : Loc nD τ sig) → Buf (Elt F) ℓ) (ρ : Dev nD → PrngReg)

/-- The mixing weights the host lays out. -/
theorem W1_v1 (c : Dev nD) : W1 m ρ c (Proc.devRef .tc main_v1)
    = truncf .bf16 (transpose S5x1024 [1, 0] (m ((c : Thread nD τ).loc main_arg3)) transposes_S1024x5_S5x1024_1_0) bitsLt_bf16_f32 := rfl
/-- The mixing bias. -/
theorem W1_v3 (c : Dev nD) : W1 m ρ c (Proc.devRef .tc main_v3)
    = truncf .bf16 (shapeCast S1x1024 (m ((c : Thread nD τ).loc main_arg4)) shapeCasts_S1024_S1x1024) bitsLt_bf16_f32 := rfl
/-- The phrase bias. -/
theorem W1_v4 (c : Dev nD) : W1 m ρ c (Proc.devRef .tc main_v4)
    = shapeCast S1x1024 (m ((c : Thread nD τ).loc main_arg6)) shapeCasts_S1024_S1x1024 := rfl
/-- The wide layer's bias. -/
theorem W1_v5 (c : Dev nD) : W1 m ρ c (Proc.devRef .tc main_v5)
    = shapeCast S1x1024 (m ((c : Thread nD τ).loc main_arg10)) shapeCasts_S1024_S1x1024 := rfl
/-- A bias as a row. -/
theorem W3_v7 (c : Dev nD) : W3 m ρ c (Proc.devRef .tc main_v7) = shapeCast S1x1024 (m ((c : Thread nD τ).loc main_arg2)) shapeCasts_S1024_S1x1024 :=
  (show _ = shapeCast S1x1024 (W2 m ρ c (Proc.devRef .tc main_arg2)) shapeCasts_S1024_S1x1024 from rfl).trans (by rw [W2_args m ρ c main_arg2 (by decide)])
/-- A bias as a row. -/
theorem W3_v8 (c : Dev nD) : W3 m ρ c (Proc.devRef .tc main_v8) = shapeCast S1x3 (m ((c : Thread nD τ).loc main_arg8)) shapeCasts_S3_S1x3 :=
  (show _ = shapeCast S1x3 (W2 m ρ c (Proc.devRef .tc main_arg8)) shapeCasts_S3_S1x3 from rfl).trans (by rw [W2_args m ρ c main_arg8 (by decide)])
/-- A bias as a row. -/
theorem W3_v9 (c : Dev nD) : W3 m ρ c (Proc.devRef .tc main_v9) = shapeCast S1x1024 (m ((c : Thread nD τ).loc main_arg12)) shapeCasts_S1024_S1x1024 :=
  (show _ = shapeCast S1x1024 (W2 m ρ c (Proc.devRef .tc main_arg12)) shapeCasts_S1024_S1x1024 from rfl).trans (by rw [W2_args m ρ c main_arg12 (by decide)])
/-- A bias as a row. -/
theorem W3_v10 (c : Dev nD) : W3 m ρ c (Proc.devRef .tc main_v10) = shapeCast S1x1024 (m ((c : Thread nD τ).loc main_arg14)) shapeCasts_S1024_S1x1024 :=
  (show _ = shapeCast S1x1024 (W2 m ρ c (Proc.devRef .tc main_arg14)) shapeCasts_S1024_S1x1024 from rfl).trans (by rw [W2_args m ρ c main_arg14 (by decide)])
/-- It reaches the second call as the host laid it out. -/
theorem W3_v1 (c : Dev nD) : W3 m ρ c (Proc.devRef .tc main_v1) = W1 m ρ c (Proc.devRef .tc main_v1) :=
  (W3_of m ρ c main_v1 (by decide)).trans (W2_of m ρ c main_v1 (by decide))
/-- It reaches the second call as the host laid it out. -/
theorem W3_v3 (c : Dev nD) : W3 m ρ c (Proc.devRef .tc main_v3) = W1 m ρ c (Proc.devRef .tc main_v3) :=
  (W3_of m ρ c main_v3 (by decide)).trans (W2_of m ρ c main_v3 (by decide))
/-- A prepared weight reaches the second call as the first left it. -/
theorem W3_v6_0 (c : Dev nD) : W3 m ρ c (Proc.devRef .tc main_v6_0) = (k0_pay3 (m ((c : Thread nD τ).loc main_arg1))) := by
  refine (W3_of m ρ c main_v6_0 (by decide)).trans ((W2_arr m ρ c 8).trans ((prep_arr_8 (V1 m ρ) c).trans ?_))
  rw [show V1 m ρ c main_arg1 = m ((c : Thread nD τ).loc main_arg1) from W1_args m ρ c main_arg1 (by decide)]
/-- A prepared weight reaches the second call as the first left it. -/
theorem W3_v6_1 (c : Dev nD) : W3 m ρ c (Proc.devRef .tc main_v6_1) = (k0_pay4 (View.ld (m ((c : Thread nD τ).loc main_arg9)) prepR0) (m ((c : Thread nD τ).loc main_arg5))) := by
  refine (W3_of m ρ c main_v6_1 (by decide)).trans ((W2_arr m ρ c 9).trans ((prep_arr_9 (V1 m ρ) c).trans ?_))
  rw [show V1 m ρ c main_arg9 = m ((c : Thread nD τ).loc main_arg9) from W1_args m ρ c main_arg9 (by decide), show V1 m ρ c main_arg5 = m ((c : Thread nD τ).loc main_arg5) from W1_args m ρ c main_arg5 (by decide)]
/-- A prepared weight reaches the second call as the first left it. -/
theorem W3_v6_2 (c : Dev nD) : W3 m ρ c (Proc.devRef .tc main_v6_2) = (k0_pay5 (View.ld (m ((c : Thread nD τ).loc main_arg9)) prepR2) (m ((c : Thread nD τ).loc main_arg7))) := by
  refine (W3_of m ρ c main_v6_2 (by decide)).trans ((W2_arr m ρ c 10).trans ((prep_arr_10 (V1 m ρ) c).trans ?_))
  rw [show V1 m ρ c main_arg9 = m ((c : Thread nD τ).loc main_arg9) from W1_args m ρ c main_arg9 (by decide), show V1 m ρ c main_arg7 = m ((c : Thread nD τ).loc main_arg7) from W1_args m ρ c main_arg7 (by decide)]
/-- A prepared weight reaches the second call as the first left it. -/
theorem W3_v6_3 (c : Dev nD) : W3 m ρ c (Proc.devRef .tc main_v6_3) = (k0_pay6 (View.ld (m ((c : Thread nD τ).loc main_arg9)) prepR5)) := by
  refine (W3_of m ρ c main_v6_3 (by decide)).trans ((W2_arr m ρ c 11).trans ((prep_arr_11 (V1 m ρ) c).trans ?_))
  rw [show V1 m ρ c main_arg9 = m ((c : Thread nD τ).loc main_arg9) from W1_args m ρ c main_arg9 (by decide)]
/-- A prepared weight reaches the second call as the first left it. -/
theorem W3_v6_4 (c : Dev nD) : W3 m ρ c (Proc.devRef .tc main_v6_4) = (k0_pay7 (m ((c : Thread nD τ).loc main_arg11))) := by
  refine (W3_of m ρ c main_v6_4 (by decide)).trans ((W2_arr m ρ c 12).trans ((prep_arr_12 (V1 m ρ) c).trans ?_))
  rw [show V1 m ρ c main_arg11 = m ((c : Thread nD τ).loc main_arg11) from W1_args m ρ c main_arg11 (by decide)]
/-- A prepared weight reaches the second call as the first left it. -/
theorem W3_v6_5 (c : Dev nD) : W3 m ρ c (Proc.devRef .tc main_v6_5) = (k0_pay1 (m ((c : Thread nD τ).loc main_arg13))) := by
  refine (W3_of m ρ c main_v6_5 (by decide)).trans ((W2_arr m ρ c 13).trans ((prep_arr_13 (V1 m ρ) c).trans ?_))
  rw [show V1 m ρ c main_arg13 = m ((c : Thread nD τ).loc main_arg13) from W1_args m ρ c main_arg13 (by decide)]
/-- A prepared weight reaches the second call as the first left it. -/
theorem W3_v6_6 (c : Dev nD) : W3 m ρ c (Proc.devRef .tc main_v6_6) = (k0_pay2 (View.ld (m ((c : Thread nD τ).loc main_arg9)) prepR0) (shapeCast S1x1024 (m ((c : Thread nD τ).loc main_arg10)) shapeCasts_S1024_S1x1024) (shapeCast S1x1024 (m ((c : Thread nD τ).loc main_arg6)) shapeCasts_S1024_S1x1024)) := by
  refine (W3_of m ρ c main_v6_6 (by decide)).trans ((W2_arr m ρ c 14).trans ((prep_arr_14 (V1 m ρ) c).trans ?_))
  rw [show V1 m ρ c main_arg9 = m ((c : Thread nD τ).loc main_arg9) from W1_args m ρ c main_arg9 (by decide), show V1 m ρ c main_v5 = _ from W1_v5 m ρ c, show V1 m ρ c main_v4 = _ from W1_v4 m ρ c]

end Cert.KernelIdeal.Hand
-- ==== Proof.KernelIdeal.Feed.lean ====
module

public import proofs.«01_k».proof.Proof.KernelIdeal.Entry

/-! The second call's blocks at a point are the arguments at the point's rows, and the scratch it starts from is the hidden
rows the point before left. -/

@[expose] public section

set_option maxRecDepth 16384
set_option maxHeartbeats 1000000

noncomputable section

namespace Cert.KernelIdeal.Hand

open Cert.KernelIdeal Cert.KernelIdeal.Gen Cert.Model
open Idealize.ShloMosaic Idealize.ShloMosaic.TcCoe

section Reads
variable (a : FVec Ideal S1024x1024 .f32) (w1 : Vec Ideal S1024x3072 .f32) (v : FVec Ideal S1024 .f32) (u : FVec Ideal S3 .f32)
  (cw : FVec Ideal S1024x5 .f32) (wh : FVec Ideal S3x1024 .f32)

/-- A vector as a row. -/
theorem row_at (j : Fin 1024) : shapeCast S1x1024 v shapeCasts_S1024_S1x1024 (ix2 0 j) = v (ix1 j) := by pointwise
/-- A short vector as a row. -/
theorem row3_at (q : Fin 3) : shapeCast S1x3 u shapeCasts_S3_S1x3 (ix2 0 q) = u (ix1 q) := by pointwise
/-- A narrowed row. -/
theorem rown_at (j : Fin 1024) : (truncf .bf16 (shapeCast S1x1024 v shapeCasts_S1024_S1x1024) bitsLt_bf16_f32 (ix2 0 j) : EReal) = v (ix1 j) := by pointwise
/-- The mixing weights, transposed. -/
theorem cw_at (q : Fin 5) (d : Fin 1024) : (truncf .bf16 (transpose S5x1024 [1, 0] cw transposes_S1024x5_S5x1024_1_0) bitsLt_bf16_f32 (ix2 q d) : EReal) = cw (ix2 d q) := by pointwise
/-- The wide weight's first third. -/
theorem third0 (j d : Fin 1024) : View.ld w1 prepR2 (ix2 j d) = w1 (ix2 j (colA d)) := by pointwise
/-- The wide weight's second third. -/
theorem third1 (j d : Fin 1024) : View.ld w1 prepR5 (ix2 j d) = w1 (ix2 j (colB d)) := by pointwise
/-- The wide weight's last third. -/
theorem third2 (j d : Fin 1024) : View.ld w1 prepR0 (ix2 j d) = w1 (ix2 j (colC d)) := by pointwise
end Reads

variable (m : (ℓ : Loc nD τ sig) → Buf (Elt Ideal) ℓ) (ρ : Dev nD → PrngReg)

/-- The arguments a device starts with, read at indices. -/
def parK (c : Dev nD) : Par :=
  parOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The blocks of a point are the arguments at the point's rows. -/
theorem blk_is (c : Dev nD) (t : Fin cfg1.N) : BlkIs (parK m c) (grid1.coords t 0) ((grid1.coords t 1).val * 1024) (blkAt (V3 m ρ) c t) where
  x r k := by
    have h1 : (grid1.coords t 1).val < 2 := (grid1.coords t 1).isLt
    have h : (grid1.coords t 1).val * 1024 + r.val < 2048 := by omega
    refine (blockBlk_0 (V3 m ρ) c t r k h).trans ?_
    rw [show V3 m ρ c main_arg0 = m ((c : Thread nD τ).loc main_arg0) from W3_args m ρ c main_arg0 (by decide)]
    show _ = dite _ _ _
    rw [dif_pos h]
  win k j := (congrFun ((blockBlk_1 (V3 m ρ) c t).trans (W3_v6_0 m ρ c)) (ix2 k j)).trans (prep3_at _ _ _)
  bin j := (congrFun ((blockBlk_2 (V3 m ρ) c t).trans (W3_v7 m ρ c)) (ix2 0 j)).trans (row_at _ _)
  cw q d := (congrFun ((blockBlk_3 (V3 m ρ) c t).trans ((W3_v1 m ρ c).trans (W1_v1 m ρ c))) (ix2 q d)).trans (cw_at _ _ _)
  cb d := (congrFun ((blockBlk_4 (V3 m ρ) c t).trans ((W3_v3 m ρ c).trans (W1_v3 m ρ c))) (ix2 0 d)).trans (rown_at _ _)
  wq e j := (congrFun ((blockBlk_5 (V3 m ρ) c t).trans (W3_v6_1 m ρ c)) (ix2 e j)).trans
    ((prep4_at _ _ _ _).trans (Finset.sum_congr rfl fun k _ => congrArg (· * _) (third2 _ _ _)))
  bhead q := (congrFun ((blockBlk_6 (V3 m ρ) c t).trans (W3_v8 m ρ c)) (ix2 0 q)).trans (row3_at _ _)
  wa d j := (congrFun ((blockBlk_7 (V3 m ρ) c t).trans (W3_v6_2 m ρ c)) (ix2 d ⟨j.val, by omega⟩)).trans
    ((prep5_at_low _ _ _ _).trans (third0 _ _ _))
  wh d q := (congrFun ((blockBlk_7 (V3 m ρ) c t).trans (W3_v6_2 m ρ c)) (ix2 d ⟨1024 + q.val, by omega⟩)).trans
    (prep5_at_head _ _ _ _)
  wb d j := (congrFun ((blockBlk_8 (V3 m ρ) c t).trans (W3_v6_3 m ρ c)) (ix2 d j)).trans ((prep6_at _ _ _).trans (third1 _ _ _))
  bq j := (congrFun ((blockBlk_9 (V3 m ρ) c t).trans (W3_v6_6 m ρ c)) (ix2 0 j)).trans ((prep2_at _ _ _ _).trans
    (congrArg₂ (· + ·) (row_at _ _) (Finset.sum_congr rfl fun k _ => congrArg₂ (· * ·) (row_at _ _) (third2 _ _ _))))
  w2 k j := (congrFun ((blockBlk_10 (V3 m ρ) c t).trans (W3_v6_4 m ρ c)) (ix2 k j)).trans (prep7_at _ _ _)
  b2 j := (congrFun ((blockBlk_11 (V3 m ρ) c t).trans (W3_v9 m ρ c)) (ix2 0 j)).trans (row_at _ _)
  wout k j := (congrFun ((blockBlk_12 (V3 m ρ) c t).trans (W3_v6_5 m ρ c)) (ix2 k j)).trans (prep1_at _ _ _)
  bout j := (congrFun ((blockBlk_13 (V3 m ρ) c t).trans (W3_v10 m ρ c)) (ix2 0 j)).trans (row_at _ _)

/-- The grid's points in order: sequence, then half. -/
theorem coords_val : ∀ t : Fin cfg1.N, (grid1.coords t 0).val = t.val / 2 ∧ (grid1.coords t 1).val = t.val % 2 :=
  (by decide +kernel : ∀ t : Fin grid1.N, (grid1.coords t 0).val = t.val / 2 ∧ (grid1.coords t 1).val = t.val % 2)

/-- At a sequence's second half the scratch holds the hidden rows just before it. -/
theorem carry_is (c : Dev nD) (t : Fin cfg1.N) (h : (grid1.coords t 1).val ≠ 0) :
    Carry (parK m c) (grid1.coords t 0) ((grid1.coords t 1).val * 1024) (carried (V3 m ρ) c t.val) := by
  obtain ⟨e0, e1⟩ := coords_val t
  obtain ⟨n, hn⟩ := t
  have hN : n < 4 := hn
  dsimp only at e0 e1
  obtain ⟨k, rfl⟩ : ∃ k, n = k + 1 := ⟨n - 1, by omega⟩
  have hk : k < cfg1.N := by omega
  obtain ⟨f0, f1⟩ := coords_val ⟨k, hk⟩
  dsimp only at f0 f1
  have g1 : (grid1.coords ⟨k, hk⟩ 1).val = 0 := by omega
  have g0 : grid1.coords ⟨k, hk⟩ 0 = grid1.coords ⟨k + 1, hn⟩ 0 := Fin.ext (by omega)
  have u1 : (grid1.coords ⟨k + 1, hn⟩ 1).val = 1 := by omega
  intro i q d hq
  show carried (V3 m ρ) c (k + 1) (ix3 i q d) = _
  rw [carried, dif_pos hk, tailsB_at (parK m c) (grid1.coords ⟨k, hk⟩ 0) (grid1.coords ⟨k, hk⟩) _ _ (blk_is m ρ c _) (fun h => absurd g1 h), g0, g1, u1]
  congr 1
  omega

/-- At every point. -/
theorem carry_at (c : Dev nD) (t : Fin cfg1.N) : (grid1.coords t 1).val ≠ 0 →
    Carry (parK m c) (grid1.coords t 0) ((grid1.coords t 1).val * 1024) (carried (V3 m ρ) c t.val) := carry_is m ρ c t

/-- The result rows a point writes are the model's. -/
theorem out_point (c : Dev nD) (t : Fin cfg1.N) (r j : Fin 1024) :
    outB (grid1.coords t) (blkAt (V3 m ρ) c t) (carried (V3 m ρ) c t.val) (ix3 0 r j)
      = out (parK m c) (preK (parK m c)) (grid1.coords t 0) ((grid1.coords t 1).val * 1024 + r.val) j :=
  outB_at (parK m c) (grid1.coords t 0) (grid1.coords t) _ _ (blk_is m ρ c t) (carry_at m ρ c t) r j
/-- The sum over a point's rows of the first head. -/
theorem sal_point (c : Dev nD) (t : Fin cfg1.N) :
    salB (grid1.coords t) (blkAt (V3 m ρ) c t) (carried (V3 m ρ) c t.val) (ix4 0 0 0 0)
      = ∑ r : Fin 1024, head (parK m c) (hid (parK m c) (preK (parK m c)) (grid1.coords t 0) 2) 0 ((grid1.coords t 1).val * 1024 + r.val) :=
  salB_at (parK m c) (grid1.coords t 0) (grid1.coords t) _ _ (blk_is m ρ c t) (carry_at m ρ c t)
/-- The sum over a point's rows of the second head. -/
theorem unc_point (c : Dev nD) (t : Fin cfg1.N) :
    uncB (grid1.coords t) (blkAt (V3 m ρ) c t) (carried (V3 m ρ) c t.val) (ix4 0 0 0 0)
      = ∑ r : Fin 1024, head (parK m c) (hid (parK m c) (preK (parK m c)) (grid1.coords t 0) 2) 1 ((grid1.coords t 1).val * 1024 + r.val) :=
  uncB_at (parK m c) (grid1.coords t 0) (grid1.coords t) _ _ (blk_is m ρ c t) (carry_at m ρ c t)
/-- The sum over a point's rows of the third head. -/
theorem halt_point (c : Dev nD) (t : Fin cfg1.N) :
    haltB (grid1.coords t) (blkAt (V3 m ρ) c t) (carried (V3 m ρ) c t.val) (ix4 0 0 0 0)
      = ∑ r : Fin 1024, head (parK m c) (hid (parK m c) (preK (parK m c)) (grid1.coords t 0) 2) 2 ((grid1.coords t 1).val * 1024 + r.val) :=
  haltB_at (parK m c) (grid1.coords t 0) (grid1.coords t) _ _ (blk_is m ρ c t) (carry_at m ρ c t)

end Cert.KernelIdeal.Hand
-- ==== Proof.KernelIdeal.Results.lean ====
module

public import proofs.«01_k».proof.Proof.KernelIdeal.Feed
public import Idealize.ShloMosaic.Lib.Pointwise

/-! What the kernel's four results hold: the model with the pre-activation in its folded form. -/

@[expose] public section

set_option maxRecDepth 16384
set_option maxHeartbeats 1000000

noncomputable section

namespace Cert.KernelIdeal.Hand

open Cert.KernelIdeal Cert.KernelIdeal.Gen Cert.Model
open Idealize.ShloMosaic Idealize.ShloMosaic.TcCoe
open Idealize.ShloMosaic.Pipeline (Dat Cfg Window)

/-- The point a sequence's half is computed at. -/
def point (s h : ℕ) (hs : s < 2) (hh : h < 2) : Fin cfg1.N := ⟨2 * s + h, show 2 * s + h < 4 by omega⟩

/-- An index of a block of rows by its row and column. -/
theorem idx_rows (x : S1x1024x1024.Idx) : x = ix3 0 (x 1) (x 2) := by
  funext a
  match a with
  | ⟨0, _⟩ => exact Subsingleton.elim (α := Fin 1) _ _
  | ⟨1, _⟩ => rfl
  | ⟨2, _⟩ => rfl

/-- A block of one element has one index. -/
theorem idx_one (x : S1x1x1x1.Idx) : x = ix4 0 0 0 0 := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _

variable (m : (ℓ : Loc nD τ sig) → Buf (Elt Ideal) ℓ) (ρ : Dev nD → PrngReg)

/-- The result's rows, as an array. -/
def outArr (c : Dev nD) : FVec Ideal S2x2048x1024 .f32 := fun i => out (parK m c) (preK (parK m c)) (i 0) (i 1).val (i 2)
/-- The head sums of the two sequences' halves, as an array. -/
def sumArr (q : Fin 3) (c : Dev nD) : FVec Ideal S2x2x1x1 .f32 := fun i =>
  ∑ r : Fin 1024, head (parK m c) (hid (parK m c) (preK (parK m c)) (i 0) 2) q ((i 1).val * 1024 + r.val)

/-- Where an element of a block of result rows lies. -/
theorem rect14 (t : Fin cfg1.N) (x : S1x1024x1024.Idx) :
    (win1_14.rect t).emb x 0 = grid1.coords t 0 ∧ ((win1_14.rect t).emb x 1).val = (grid1.coords t 1).val * 1024 + (x 1).val
      ∧ (win1_14.rect t).emb x 2 = x 2 := by
  have h0 : (grid1.coords t 0).val < 2 := (grid1.coords t 0).isLt
  have h1 : (grid1.coords t 1).val < 2 := (grid1.coords t 1).isLt
  have hx : (x 0).val < 1 := (x 0).isLt
  refine ⟨Fin.ext ?_, ?_, Fin.ext ?_⟩
  · rw [Window.rect_emb_val win1_14 t x 0]
    show (BitVec.ofNat 32 (grid1.coords t 0).val).toNat * 1 + (x 0).val = (grid1.coords t 0).val
    rw [BitVec.toNat_ofNat]; omega
  · rw [Window.rect_emb_val win1_14 t x 1]
    show (BitVec.ofNat 32 (grid1.coords t 1).val).toNat * 1024 + (x 1).val = (grid1.coords t 1).val * 1024 + (x 1).val
    rw [BitVec.toNat_ofNat]; omega
  · rw [Window.rect_emb_val win1_14 t x 2]
    show 0 * 1024 + (x 2).val = (x 2).val
    omega

/-- What a point writes back of the result's rows. -/
theorem flushed_14 (c : Dev nD) (t : Fin cfg1.N) :
    (blockDat (V3 m ρ) c).flushed 14 t = (win1_14.blk t).view.read (Elt Ideal) (outArr m c) := by
  show (cfg1.win 14).cut (grid1.coords t) ((blockDat (V3 m ρ) c).after 14 t) = _
  rw [block_after_14, View.canon_unit_zero z3]
  funext x
  obtain ⟨e0, e1, e2⟩ := rect14 t x
  show outB (grid1.coords t) (blkAt (V3 m ρ) c t) (carried (V3 m ρ) c t.val) x
    = out (parK m c) (preK (parK m c)) ((win1_14.rect t).emb x 0) ((win1_14.rect t).emb x 1).val ((win1_14.rect t).emb x 2)
  rw [e0, e1, e2]
  exact (congrArg (outB (grid1.coords t) (blkAt (V3 m ρ) c t) (carried (V3 m ρ) c t.val)) (idx_rows x)).trans (out_point m ρ c t (x 1) (x 2))

/-- Every row is in the block of its sequence's half. -/
theorem mem_14 (i : S2x2048x1024.Idx) : ∃ t : Fin cfg1.N, i ∈ ((cfg1.win 14).blk t).view.set := by
  have h0 : (i 0).val < 2 := (i 0).isLt
  have h1 : (i 1).val < 2048 := (i 1).isLt
  refine ⟨point (i 0).val ((i 1).val / 1024) h0 (by omega), ?_⟩
  generalize ht : point (i 0).val ((i 1).val / 1024) h0 (by omega) = t
  obtain ⟨c0, c1⟩ := coords_val t
  have tv : t.val = 2 * (i 0).val + (i 1).val / 1024 := by rw [← ht]; rfl
  show i ∈ ((View.whole main_v11_0).slice (win1_14.rect t)).set
  rw [View.set_slice_whole]
  obtain ⟨e0, e1, e2⟩ := rect14 t (ix3 0 ⟨(i 1).val % 1024, by omega⟩ (i 2))
  have e : (win1_14.rect t).emb (ix3 0 ⟨(i 1).val % 1024, by omega⟩ (i 2)) = i := by
    funext a
    match a with
    | ⟨0, _⟩ => exact e0.trans (Fin.ext (show (grid1.coords t 0).val = (i 0).val by omega))
    | ⟨1, _⟩ => exact Fin.ext (e1.trans (by show (grid1.coords t 1).val * 1024 + (i 1).val % 1024 = (i 1).val; omega))
    | ⟨2, _⟩ => exact e2
  rw [← e]
  exact (LoadRect.mem_set _).2 fun a => ⟨_, Fin.isLt _, rfl⟩

/-- The result's rows after the second call. -/
theorem arr_14 (c : Dev nD) : (blockDat (V3 m ρ) c).arrAt 14 cfg1.N = outArr m c :=
  (blockDat (V3 m ρ) c).arrAt_eq_of_cover 14 (outArr m c) (fun t _ => flushed_14 m ρ c t) fun i => by
    obtain ⟨t, ht⟩ := mem_14 i
    exact ⟨t, flush1_14 t, ht⟩

/-- Where a head's sum of a block lies. -/
theorem rect15 (t : Fin cfg1.N) (x : S1x1x1x1.Idx) :
    (win1_15.rect t).emb x 0 = grid1.coords t 0 ∧ (win1_15.rect t).emb x 1 = grid1.coords t 1 := by
  have h0 : (grid1.coords t 0).val < 2 := (grid1.coords t 0).isLt
  have h1 : (grid1.coords t 1).val < 2 := (grid1.coords t 1).isLt
  have hx : (x 0).val < 1 := (x 0).isLt
  have hy : (x 1).val < 1 := (x 1).isLt
  refine ⟨Fin.ext ?_, Fin.ext ?_⟩
  · rw [Window.rect_emb_val win1_15 t x 0]
    show (BitVec.ofNat 32 (grid1.coords t 0).val).toNat * 1 + (x 0).val = (grid1.coords t 0).val
    rw [BitVec.toNat_ofNat]; omega
  · rw [Window.rect_emb_val win1_15 t x 1]
    show (BitVec.ofNat 32 (grid1.coords t 1).val).toNat * 1 + (x 1).val = (grid1.coords t 1).val
    rw [BitVec.toNat_ofNat]; omega

/-- What a point writes back of a head's sums. -/
theorem flushed_15 (c : Dev nD) (t : Fin cfg1.N) :
    (blockDat (V3 m ρ) c).flushed 15 t = (win1_15.blk t).view.read (Elt Ideal) (sumArr m 0 c) := by
  show (cfg1.win 15).cut (grid1.coords t) ((blockDat (V3 m ρ) c).after 15 t) = _
  rw [block_after_15, View.canon_unit_zero z4]
  funext x
  obtain ⟨e0, e1⟩ := rect15 t x
  show salB (grid1.coords t) (blkAt (V3 m ρ) c t) (carried (V3 m ρ) c t.val) x
    = ∑ r : Fin 1024, head (parK m c) (hid (parK m c) (preK (parK m c)) ((win1_15.rect t).emb x 0) 2) 0 (((win1_15.rect t).emb x 1).val * 1024 + r.val)
  rw [e0, e1]
  exact (congrArg (salB (grid1.coords t) (blkAt (V3 m ρ) c t) (carried (V3 m ρ) c t.val)) (idx_one x)).trans (sal_point m ρ c t)

/-- Every sum is some point's. -/
theorem mem_15 (i : S2x2x1x1.Idx) : ∃ t : Fin cfg1.N, i ∈ ((cfg1.win 15).blk t).view.set := by
  have h0 : (i 0).val < 2 := (i 0).isLt
  have h1 : (i 1).val < 2 := (i 1).isLt
  refine ⟨point (i 0).val (i 1).val h0 h1, ?_⟩
  generalize ht : point (i 0).val (i 1).val h0 h1 = t
  obtain ⟨c0, c1⟩ := coords_val t
  have tv : t.val = 2 * (i 0).val + (i 1).val := by rw [← ht]; rfl
  show i ∈ ((View.whole main_v11_1).slice (win1_15.rect t)).set
  rw [View.set_slice_whole]
  obtain ⟨e0, e1⟩ := rect15 t (ix4 0 0 0 0)
  have e : (win1_15.rect t).emb (ix4 0 0 0 0) = i := by
    funext a
    match a with
    | ⟨0, _⟩ => exact e0.trans (Fin.ext (show (grid1.coords t 0).val = (i 0).val by omega))
    | ⟨1, _⟩ => exact e1.trans (Fin.ext (show (grid1.coords t 1).val = (i 1).val by omega))
    | ⟨2, _⟩ => exact Subsingleton.elim (α := Fin 1) _ _
    | ⟨3, _⟩ => exact Subsingleton.elim (α := Fin 1) _ _
  rw [← e]
  exact (LoadRect.mem_set _).2 fun a => ⟨_, Fin.isLt _, rfl⟩

/-- A head's sums after the second call. -/
theorem arr_15 (c : Dev nD) : (blockDat (V3 m ρ) c).arrAt 15 cfg1.N = sumArr m 0 c :=
  (blockDat (V3 m ρ) c).arrAt_eq_of_cover 15 (sumArr m 0 c) (fun t _ => flushed_15 m ρ c t) fun i => by
    obtain ⟨t, ht⟩ := mem_15 i
    exact ⟨t, flush1_15 t, ht⟩

/-- Where a head's sum of a block lies. -/
theorem rect16 (t : Fin cfg1.N) (x : S1x1x1x1.Idx) :
    (win1_16.rect t).emb x 0 = grid1.coords t 0 ∧ (win1_16.rect t).emb x 1 = grid1.coords t 1 := by
  have h0 : (grid1.coords t 0).val < 2 := (grid1.coords t 0).isLt
  have h1 : (grid1.coords t 1).val < 2 := (grid1.coords t 1).isLt
  have hx : (x 0).val < 1 := (x 0).isLt
  have hy : (x 1).val < 1 := (x 1).isLt
  refine ⟨Fin.ext ?_, Fin.ext ?_⟩
  · rw [Window.rect_emb_val win1_16 t x 0]
    show (BitVec.ofNat 32 (grid1.coords t 0).val).toNat * 1 + (x 0).val = (grid1.coords t 0).val
    rw [BitVec.toNat_ofNat]; omega
  · rw [Window.rect_emb_val win1_16 t x 1]
    show (BitVec.ofNat 32 (grid1.coords t 1).val).toNat * 1 + (x 1).val = (grid1.coords t 1).val
    rw [BitVec.toNat_ofNat]; omega

/-- What a point writes back of a head's sums. -/
theorem flushed_16 (c : Dev nD) (t : Fin cfg1.N) :
    (blockDat (V3 m ρ) c).flushed 16 t = (win1_16.blk t).view.read (Elt Ideal) (sumArr m 1 c) := by
  show (cfg1.win 16).cut (grid1.coords t) ((blockDat (V3 m ρ) c).after 16 t) = _
  rw [block_after_16, View.canon_unit_zero z4]
  funext x
  obtain ⟨e0, e1⟩ := rect16 t x
  show uncB (grid1.coords t) (blkAt (V3 m ρ) c t) (carried (V3 m ρ) c t.val) x
    = ∑ r : Fin 1024, head (parK m c) (hid (parK m c) (preK (parK m c)) ((win1_16.rect t).emb x 0) 2) 1 (((win1_16.rect t).emb x 1).val * 1024 + r.val)
  rw [e0, e1]
  exact (congrArg (uncB (grid1.coords t) (blkAt (V3 m ρ) c t) (carried (V3 m ρ) c t.val)) (idx_one x)).trans (unc_point m ρ c t)

/-- Every sum is some point's. -/
theorem mem_16 (i : S2x2x1x1.Idx) : ∃ t : Fin cfg1.N, i ∈ ((cfg1.win 16).blk t).view.set := by
  have h0 : (i 0).val < 2 := (i 0).isLt
  have h1 : (i 1).val < 2 := (i 1).isLt
  refine ⟨point (i 0).val (i 1).val h0 h1, ?_⟩
  generalize ht : point (i 0).val (i 1).val h0 h1 = t
  obtain ⟨c0, c1⟩ := coords_val t
  have tv : t.val = 2 * (i 0).val + (i 1).val := by rw [← ht]; rfl
  show i ∈ ((View.whole main_v11_2).slice (win1_16.rect t)).set
  rw [View.set_slice_whole]
  obtain ⟨e0, e1⟩ := rect16 t (ix4 0 0 0 0)
  have e : (win1_16.rect t).emb (ix4 0 0 0 0) = i := by
    funext a
    match a with
    | ⟨0, _⟩ => exact e0.trans (Fin.ext (show (grid1.coords t 0).val = (i 0).val by omega))
    | ⟨1, _⟩ => exact e1.trans (Fin.ext (show (grid1.coords t 1).val = (i 1).val by omega))
    | ⟨2, _⟩ => exact Subsingleton.elim (α := Fin 1) _ _
    | ⟨3, _⟩ => exact Subsingleton.elim (α := Fin 1) _ _
  rw [← e]
  exact (LoadRect.mem_set _).2 fun a => ⟨_, Fin.isLt _, rfl⟩

/-- A head's sums after the second call. -/
theorem arr_16 (c : Dev nD) : (blockDat (V3 m ρ) c).arrAt 16 cfg1.N = sumArr m 1 c :=
  (blockDat (V3 m ρ) c).arrAt_eq_of_cover 16 (sumArr m 1 c) (fun t _ => flushed_16 m ρ c t) fun i => by
    obtain ⟨t, ht⟩ := mem_16 i
    exact ⟨t, flush1_16 t, ht⟩

/-- Where a head's sum of a block lies. -/
theorem rect17 (t : Fin cfg1.N) (x : S1x1x1x1.Idx) :
    (win1_17.rect t).emb x 0 = grid1.coords t 0 ∧ (win1_17.rect t).emb x 1 = grid1.coords t 1 := by
  have h0 : (grid1.coords t 0).val < 2 := (grid1.coords t 0).isLt
  have h1 : (grid1.coords t 1).val < 2 := (grid1.coords t 1).isLt
  have hx : (x 0).val < 1 := (x 0).isLt
  have hy : (x 1).val < 1 := (x 1).isLt
  refine ⟨Fin.ext ?_, Fin.ext ?_⟩
  · rw [Window.rect_emb_val win1_17 t x 0]
    show (BitVec.ofNat 32 (grid1.coords t 0).val).toNat * 1 + (x 0).val = (grid1.coords t 0).val
    rw [BitVec.toNat_ofNat]; omega
  · rw [Window.rect_emb_val win1_17 t x 1]
    show (BitVec.ofNat 32 (grid1.coords t 1).val).toNat * 1 + (x 1).val = (grid1.coords t 1).val
    rw [BitVec.toNat_ofNat]; omega

/-- What a point writes back of a head's sums. -/
theorem flushed_17 (c : Dev nD) (t : Fin cfg1.N) :
    (blockDat (V3 m ρ) c).flushed 17 t = (win1_17.blk t).view.read (Elt Ideal) (sumArr m 2 c) := by
  show (cfg1.win 17).cut (grid1.coords t) ((blockDat (V3 m ρ) c).after 17 t) = _
  rw [block_after_17, View.canon_unit_zero z4]
  funext x
  obtain ⟨e0, e1⟩ := rect17 t x
  show haltB (grid1.coords t) (blkAt (V3 m ρ) c t) (carried (V3 m ρ) c t.val) x
    = ∑ r : Fin 1024, head (parK m c) (hid (parK m c) (preK (parK m c)) ((win1_17.rect t).emb x 0) 2) 2 (((win1_17.rect t).emb x 1).val * 1024 + r.val)
  rw [e0, e1]
  exact (congrArg (haltB (grid1.coords t) (blkAt (V3 m ρ) c t) (carried (V3 m ρ) c t.val)) (idx_one x)).trans (halt_point m ρ c t)

/-- Every sum is some point's. -/
theorem mem_17 (i : S2x2x1x1.Idx) : ∃ t : Fin cfg1.N, i ∈ ((cfg1.win 17).blk t).view.set := by
  have h0 : (i 0).val < 2 := (i 0).isLt
  have h1 : (i 1).val < 2 := (i 1).isLt
  refine ⟨point (i 0).val (i 1).val h0 h1, ?_⟩
  generalize ht : point (i 0).val (i 1).val h0 h1 = t
  obtain ⟨c0, c1⟩ := coords_val t
  have tv : t.val = 2 * (i 0).val + (i 1).val := by rw [← ht]; rfl
  show i ∈ ((View.whole main_v11_3).slice (win1_17.rect t)).set
  rw [View.set_slice_whole]
  obtain ⟨e0, e1⟩ := rect17 t (ix4 0 0 0 0)
  have e : (win1_17.rect t).emb (ix4 0 0 0 0) = i := by
    funext a
    match a with
    | ⟨0, _⟩ => exact e0.trans (Fin.ext (show (grid1.coords t 0).val = (i 0).val by omega))
    | ⟨1, _⟩ => exact e1.trans (Fin.ext (show (grid1.coords t 1).val = (i 1).val by omega))
    | ⟨2, _⟩ => exact Subsingleton.elim (α := Fin 1) _ _
    | ⟨3, _⟩ => exact Subsingleton.elim (α := Fin 1) _ _
  rw [← e]
  exact (LoadRect.mem_set _).2 fun a => ⟨_, Fin.isLt _, rfl⟩

/-- A head's sums after the second call. -/
theorem arr_17 (c : Dev nD) : (blockDat (V3 m ρ) c).arrAt 17 cfg1.N = sumArr m 2 c :=
  (blockDat (V3 m ρ) c).arrAt_eq_of_cover 17 (sumArr m 2 c) (fun t _ => flushed_17 m ρ c t) fun i => by
    obtain ⟨t, ht⟩ := mem_17 i
    exact ⟨t, flush1_17 t, ht⟩

/-- The mean the host takes of four sums. -/
theorem mean_at (g : FVec Ideal S2x2x1x1 .f32) (i : S_.Idx) :
    Host.divf (Host.reduceAdd g (constant S_ .f32 0x00000000#32) reducesTo_S2x2x1x1_S_d0_1_2_3 h_S_) (constant S_ .f32 0x45800000#32) i
      = Ideal.div (∑ s : Fin 2, ∑ h : Fin 2, g (ix4 s h 0 0)) (Ideal.ofBits .f32 0x45800000#32) := by
  pointwise
  rw [Ideal.hostReduceAdd_total _ (fun b => b.elim0), zero_add]
  refine congrArg (Ideal.div · _) ?_
  refine (sum_idx4 (n0 := 2) (n1 := 2) (n2 := 1) (n3 := 1) g).trans ?_
  simp only [Finset.univ_unique, Finset.sum_singleton]
  rfl

/-- A sum over a sequence's rows is the sum of its halves' sums. -/
theorem sum_halves (f : ℕ → EReal) : ∑ h : Fin 2, ∑ r : Fin 1024, f (h.val * 1024 + r.val) = ∑ r : Fin 2048, f r.val := by
  rw [Fin.sum_univ_two]
  have h2 := Fin.sum_univ_add (M := EReal) (a := 1024) (b := 1024) (fun r => f r.val)
  refine Eq.trans ?_ h2.symm
  refine congrArg₂ (· + ·) (Finset.sum_congr rfl fun r _ => congrArg f ?_) (Finset.sum_congr rfl fun r _ => congrArg f ?_)
  · show 0 * 1024 + r.val = r.val; omega
  · show 1 * 1024 + r.val = 1024 + r.val; omega

/-- The mean of a head's sums is the model's. -/
theorem mean_sums (q : Fin 3) (c : Dev nD) (i : S_.Idx) :
    Host.divf (Host.reduceAdd (sumArr m q c) (constant S_ .f32 0x00000000#32) reducesTo_S2x2x1x1_S_d0_1_2_3 h_S_) (constant S_ .f32 0x45800000#32) i
      = meanHead (parK m c) (preK (parK m c)) q := by
  rw [mean_at]
  refine congrArg (Ideal.div · _) (Finset.sum_congr rfl fun s _ => ?_)
  exact sum_halves (fun r => head (parK m c) (hid (parK m c) (preK (parK m c)) s 2) q r)

/-- The first result at the end. -/
theorem W5_out (c : Dev nD) : W5 m ρ c (Proc.devRef .tc main_v11_0) = outArr m c :=
  (W5_of m ρ c main_v11_0 (by decide)).trans ((W4_arr m ρ c 14).trans (arr_14 m ρ c))
/-- The second result at the end. -/
theorem W5_v13 (c : Dev nD) : W5 m ρ c (Proc.devRef .tc main_v13) = fun _ => meanHead (parK m c) (preK (parK m c)) 0 := by
  refine (show _ = Host.divf (F := Ideal) (Host.reduceAdd (W4 m ρ c (Proc.devRef .tc main_v11_1)) (constant S_ .f32 0x00000000#32) reducesTo_S2x2x1x1_S_d0_1_2_3 h_S_) (constant S_ .f32 0x45800000#32) from rfl).trans ?_
  rw [show W4 m ρ c (Proc.devRef .tc main_v11_1) = sumArr m 0 c from (W4_arr m ρ c 15).trans (arr_15 m ρ c)]
  exact funext fun i => mean_sums m 0 c i
/-- The third result at the end. -/
theorem W5_v15 (c : Dev nD) : W5 m ρ c (Proc.devRef .tc main_v15) = fun _ => meanHead (parK m c) (preK (parK m c)) 1 := by
  refine (show _ = Host.divf (F := Ideal) (Host.reduceAdd (W4 m ρ c (Proc.devRef .tc main_v11_2)) (constant S_ .f32 0x00000000#32) reducesTo_S2x2x1x1_S_d0_1_2_3 h_S_) (constant S_ .f32 0x45800000#32) from rfl).trans ?_
  rw [show W4 m ρ c (Proc.devRef .tc main_v11_2) = sumArr m 1 c from (W4_arr m ρ c 16).trans (arr_16 m ρ c)]
  exact funext fun i => mean_sums m 1 c i
/-- The fourth result at the end. -/
theorem W5_v17 (c : Dev nD) : W5 m ρ c (Proc.devRef .tc main_v17) = fun _ => meanHead (parK m c) (preK (parK m c)) 2 := by
  refine (show _ = Host.divf (F := Ideal) (Host.reduceAdd (W4 m ρ c (Proc.devRef .tc main_v11_3)) (constant S_ .f32 0x00000000#32) reducesTo_S2x2x1x1_S_d0_1_2_3 h_S_) (constant S_ .f32 0x45800000#32) from rfl).trans ?_
  rw [show W4 m ρ c (Proc.devRef .tc main_v11_3) = sumArr m 2 c from (W4_arr m ρ c 17).trans (arr_17 m ρ c)]
  exact funext fun i => mean_sums m 2 c i

end Cert.KernelIdeal.Hand
-- ==== Proof.ReferenceIdeal.Stages.lean ====
module

public import proofs.«01_k».proof.Proof.ReferenceIdeal.Run
public import proofs.«01_k».proof.Proof.Model
public import Idealize.ShloMosaic.Lib.Pointwise
public import Idealize.ShloMosaic.Lib.IdealHost

/-! The reference's operations as stages of one micro-step, and each stage read at an index as the problem's maths. -/

@[expose] public section

set_option maxRecDepth 16384
set_option maxHeartbeats 1000000

noncomputable section

namespace Cert.ReferenceIdeal.Hand

open Cert.ReferenceIdeal Cert.ReferenceIdeal.Gen Cert.Model
open Idealize.ShloMosaic

section Defs
variable (h m ph : FVec Ideal S2x2048x1024 .f32) (w : FVec Ideal S1024x1024 .f32) (b : FVec Ideal S1024 .f32)

/-- A linear layer on every row. -/
def lin : FVec Ideal S2x2048x1024 .f32 :=
  addf (Host.dotGeneral dot_S2x2048x1024_S1024x1024_S2x2048x1024_2_0_01_1_n_n none h (transpose S1024x1024 [1, 0] w transposes_S1024x1024_S1024x1024_1_0)) (broadcastInDim S2x2048x1024 ![0, 1, 2] bcast_S1x1x1024_S2x2048x1024_0_1_2 (broadcastInDim S1x1x1024 ![2] bcast_S1024_S1x1x1024_2 b))

/-- The rows with four zero rows before them. -/
def padded : FVec Ideal S2x2052x1024 .f32 :=
  pad S2x2052x1024 ![0, 4, 0] ![0, 0, 0] ![0, 0, 0] h (sitofp .f32 (constantI S_ 32 0#32)) pads_S2x2048x1024_S2x2052x1024_000_400_000 h_S_

/-- The causal mix of padded rows. -/
def mixed (P : FVec Ideal S2x2052x1024 .f32) (cw : FVec Ideal S1024x5 .f32) (cb : FVec Ideal S1024 .f32) : FVec Ideal S2x2048x1024 .f32 :=
  addf (addf (addf (addf (addf (addf (broadcastInDim S2x2048x1024 ![] bcast_S_S2x2048x1024 (constant S_ .f32 0x00000000#32)) (mulf (extractStridedSlice S2x2048x1024 ![0, 0, 0] P slices_S2x2052x1024_S2x2048x1024_0_0_0) (broadcastInDim S2x2048x1024 ![0, 1, 2] bcast_S1x1x1024_S2x2048x1024_0_1_2 (broadcastInDim S1x1x1024 ![2] bcast_S1024_S1x1x1024_2 (shapeCast S1024 (extractStridedSlice S1024x1 ![0, 0] cw slices_S1024x5_S1024x1_0_0) shapeCasts_S1024x1_S1024))))) (mulf (extractStridedSlice S2x2048x1024 ![0, 1, 0] P slices_S2x2052x1024_S2x2048x1024_0_1_0) (broadcastInDim S2x2048x1024 ![0, 1, 2] bcast_S1x1x1024_S2x2048x1024_0_1_2 (broadcastInDim S1x1x1024 ![2] bcast_S1024_S1x1x1024_2 (shapeCast S1024 (extractStridedSlice S1024x1 ![0, 1] cw slices_S1024x5_S1024x1_0_1) shapeCasts_S1024x1_S1024))))) (mulf (extractStridedSlice S2x2048x1024 ![0, 2, 0] P slices_S2x2052x1024_S2x2048x1024_0_2_0) (broadcastInDim S2x2048x1024 ![0, 1, 2] bcast_S1x1x1024_S2x2048x1024_0_1_2 (broadcastInDim S1x1x1024 ![2] bcast_S1024_S1x1x1024_2 (shapeCast S1024 (extractStridedSlice S1024x1 ![0, 2] cw slices_S1024x5_S1024x1_0_2) shapeCasts_S1024x1_S1024))))) (mulf (extractStridedSlice S2x2048x1024 ![0, 3, 0] P slices_S2x2052x1024_S2x2048x1024_0_3_0) (broadcastInDim S2x2048x1024 ![0, 1, 2] bcast_S1x1x1024_S2x2048x1024_0_1_2 (broadcastInDim S1x1x1024 ![2] bcast_S1024_S1x1x1024_2 (shapeCast S1024 (extractStridedSlice S1024x1 ![0, 3] cw slices_S1024x5_S1024x1_0_3) shapeCasts_S1024x1_S1024))))) (mulf (extractStridedSlice S2x2048x1024 ![0, 4, 0] P slices_S2x2052x1024_S2x2048x1024_0_4_0) (broadcastInDim S2x2048x1024 ![0, 1, 2] bcast_S1x1x1024_S2x2048x1024_0_1_2 (broadcastInDim S1x1x1024 ![2] bcast_S1024_S1x1x1024_2 (shapeCast S1024 (extractStridedSlice S1024x1 ![0, 4] cw slices_S1024x5_S1024x1_0_4) shapeCasts_S1024x1_S1024))))) (broadcastInDim S2x2048x1024 ![0, 1, 2] bcast_S1x1x1024_S2x2048x1024_0_1_2 (broadcastInDim S1x1x1024 ![2] bcast_S1024_S1x1x1024_2 cb))

/-- The phrase projection, at every row of its phrase. -/
def phrased : FVec Ideal S2x2048x1024 .f32 :=
  shapeCast S2x2048x1024 (broadcastInDim S2x64x32x1024 ![0, 1, 3] bcast_S2x64x1024_S2x64x32x1024_0_1_3 (addf (Host.dotGeneral dot_S2x64x1024_S1024x1024_S2x64x1024_2_0_01_1_n_n none (Host.divf (Host.reduceAdd (shapeCast S2x64x32x1024 h shapeCasts_S2x2048x1024_S2x64x32x1024) (constant S_ .f32 0x00000000#32) reducesTo_S2x64x32x1024_S2x64x1024_d2 h_S_) (broadcastInDim S2x64x1024 ![] bcast_S_S2x64x1024 (constant S_ .f32 0x42000000#32))) (transpose S1024x1024 [1, 0] w transposes_S1024x1024_S1024x1024_1_0)) (broadcastInDim S2x64x1024 ![0, 1, 2] bcast_S1x1x1024_S2x64x1024_0_1_2 (broadcastInDim S1x1x1024 ![2] bcast_S1024_S1x1x1024_2 b)))) shapeCasts_S2x64x32x1024_S2x2048x1024

/-- The three feature groups side by side. -/
def joined : FVec Ideal S2x2048x3072 .f32 :=
  concatenate S2x2048x3072 2 [⟨S2x2048x1024, h⟩, ⟨S2x2048x1024, m⟩, ⟨S2x2048x1024, ph⟩] concatenates_S2x2048x1024_S2x2048x1024_S2x2048x1024_S2x2048x3072_d2

/-- The pre-activation of joined features. -/
def preact (u : FVec Ideal S2x2048x3072 .f32) (w1 : FVec Ideal S1024x3072 .f32) : FVec Ideal S2x2048x1024 .f32 :=
  addf (Host.dotGeneral dot_S2x2048x3072_S3072x1024_S2x2048x1024_2_0_01_1_n_n none u (transpose S3072x1024 [1, 0] w1 transposes_S1024x3072_S3072x1024_1_0)) (broadcastInDim S2x2048x1024 ![0, 1, 2] bcast_S1x1x1024_S2x2048x1024_0_1_2 (broadcastInDim S1x1x1024 ![2] bcast_S1024_S1x1x1024_2 b))

/-- The three heads. -/
def heads (wh : FVec Ideal S3x1024 .f32) (bh : FVec Ideal S3 .f32) : FVec Ideal S2x2048x3 .f32 :=
  Host.divf (broadcastInDim S2x2048x3 ![] bcast_S_S2x2048x3 (constant S_ .f32 0x3F800000#32)) (addf (broadcastInDim S2x2048x3 ![] bcast_S_S2x2048x3 (constant S_ .f32 0x3F800000#32)) (Host.exp (Host.negf (addf (Host.dotGeneral dot_S2x2048x1024_S1024x3_S2x2048x3_2_0_01_1_n_n none h (transpose S1024x3 [1, 0] wh transposes_S3x1024_S1024x3_1_0)) (broadcastInDim S2x2048x3 ![0, 1, 2] bcast_S1x1x3_S2x2048x3_0_1_2 (broadcastInDim S1x1x3 ![2] bcast_S3_S1x1x3_2 bh))))))

/-- Rows plus an update under the third head. -/
def gated (g : FVec Ideal S2x2048x3 .f32) : FVec Ideal S2x2048x1024 .f32 :=
  addf h (mulf m (broadcastInDim S2x2048x1024 ![0, 1, 2] bcast_S2x2048x1_S2x2048x1024_0_1_2 (extractStridedSlice S2x2048x1 ![0, 0, 2] g slices_S2x2048x3_S2x2048x1_0_0_2)))

/-- The mean of a head's column. -/
def meaned0 (g : FVec Ideal S2x2048x3 .f32) : FVec Ideal S_ .f32 :=
  Host.divf (Host.reduceAdd (extractStridedSlice S2x2048x1 ![0, 0, 0] g slices_S2x2048x3_S2x2048x1_0_0_0) (constant S_ .f32 0x00000000#32) reducesTo_S2x2048x1_S_d0_1_2 h_S_) (constant S_ .f32 0x45800000#32)
/-- The mean of a head's column. -/
def meaned1 (g : FVec Ideal S2x2048x3 .f32) : FVec Ideal S_ .f32 :=
  Host.divf (Host.reduceAdd (extractStridedSlice S2x2048x1 ![0, 0, 1] g slices_S2x2048x3_S2x2048x1_0_0_1) (constant S_ .f32 0x00000000#32) reducesTo_S2x2048x1_S_d0_1_2 h_S_) (constant S_ .f32 0x45800000#32)
/-- The mean of a head's column. -/
def meaned2 (g : FVec Ideal S2x2048x3 .f32) : FVec Ideal S_ .f32 :=
  Host.divf (Host.reduceAdd (extractStridedSlice S2x2048x1 ![0, 0, 2] g slices_S2x2048x3_S2x2048x1_0_0_2) (constant S_ .f32 0x00000000#32) reducesTo_S2x2048x1_S_d0_1_2 h_S_) (constant S_ .f32 0x45800000#32)
end Defs

section At
variable (h m ph : FVec Ideal S2x2048x1024 .f32) (w : FVec Ideal S1024x1024 .f32) (b : FVec Ideal S1024 .f32)
variable (s : Fin 2) (r : Fin 2048) (j : Fin 1024)

/-- A linear layer at an index. -/
theorem lin_at : lin h w b (ix3 s r j) = (∑ k : Fin 1024, h (ix3 s r k) * w (ix2 j k)) + b (ix1 j) := by
  unfold lin
  pointwise

/-- The padded rows at an index. -/
theorem padded_at (q : Fin 2052) : padded h (ix3 s q j) = if hq : q.val < 4 then 0 else h (ix3 s ⟨q.val - 4, by omega⟩ j) := by
  unfold padded
  pointwise
  by_cases hq : q.val < 4
  · rw [dif_pos hq, dif_neg (by omega)]
    exact (by simp [FloatOps.sitofp] : (FloatOps.sitofp (F := Ideal) .f32 0#32 : EReal) = 0)
  · rw [dif_neg hq, dif_pos (by omega)]

/-- The mix at an index. -/
theorem mixed_at (P : FVec Ideal S2x2052x1024 .f32) (cw : FVec Ideal S1024x5 .f32) (cb : FVec Ideal S1024 .f32) :
    mixed P cw cb (ix3 s r j) = cb (ix1 j) + P (ix3 s ⟨0 + r.val, by omega⟩ j) * cw (ix2 j 0) + P (ix3 s ⟨1 + r.val, by omega⟩ j) * cw (ix2 j 1)
      + P (ix3 s ⟨2 + r.val, by omega⟩ j) * cw (ix2 j 2) + P (ix3 s ⟨3 + r.val, by omega⟩ j) * cw (ix2 j 3) + P (ix3 s ⟨4 + r.val, by omega⟩ j) * cw (ix2 j 4) := by
  unfold mixed
  pointwise
  rw [add_comm _ (cb (ix1 j))]
  simp only [add_assoc]

/-- The phrase projection at an index. -/
theorem phrased_at : phrased h w b (ix3 s r j)
    = (∑ e : Fin 1024, Ideal.div (∑ k : Fin 32, h (ix3 s ⟨r.val / 32 * 32 + k.val, by omega⟩ e)) (Ideal.ofBits .f32 0x42000000#32) * w (ix2 j e)) + b (ix1 j) := by
  unfold phrased
  pointwise

/-- The joined features in the first group. -/
theorem joined_at_A : joined h m ph (ix3 s r (colA j)) = h (ix3 s r j) := by
  unfold joined colA
  pointwise
/-- The joined features in the second group. -/
theorem joined_at_B : joined h m ph (ix3 s r (colB j)) = m (ix3 s r j) := by
  unfold joined colB
  pointwise
/-- The joined features in the third group. -/
theorem joined_at_C : joined h m ph (ix3 s r (colC j)) = ph (ix3 s r j) := by
  unfold joined colC
  pointwise
  rw [dif_neg (by omega), dif_neg (by omega)]
  exact congrArg (fun k => ph (ix3 s r k)) (Fin.ext (by show 2048 + j.val - 1024 - 1024 = j.val; omega))

/-- The pre-activation at an index. -/
theorem preact_at (u : FVec Ideal S2x2048x3072 .f32) (w1 : FVec Ideal S1024x3072 .f32) :
    preact b u w1 (ix3 s r j) = (∑ k : Fin 3072, u (ix3 s r k) * w1 (ix2 j k)) + b (ix1 j) := by
  unfold preact
  pointwise

/-- A head at an index. -/
theorem heads_at (wh : FVec Ideal S3x1024 .f32) (bh : FVec Ideal S3 .f32) (q : Fin 3) :
    heads h wh bh (ix3 s r q) = Ideal.logistic ((∑ k : Fin 1024, h (ix3 s r k) * wh (ix2 q k)) + bh (ix1 q)) := by
  unfold heads Ideal.logistic
  pointwise

/-- A gated update at an index. -/
theorem gated_at (g : FVec Ideal S2x2048x3 .f32) : gated h m g (ix3 s r j) = h (ix3 s r j) + m (ix3 s r j) * g (ix3 s r 2) := by
  unfold gated
  pointwise

/-- A head's mean. -/
theorem meaned0_at (g : FVec Ideal S2x2048x3 .f32) (i : S_.Idx) :
    meaned0 g i = Ideal.div (∑ s : Fin 2, ∑ r : Fin 2048, g (ix3 s r 0)) (Ideal.ofBits .f32 0x45800000#32) := by
  unfold meaned0
  pointwise
  simp only [Finset.univ_unique, Finset.sum_singleton]
/-- A head's mean. -/
theorem meaned1_at (g : FVec Ideal S2x2048x3 .f32) (i : S_.Idx) :
    meaned1 g i = Ideal.div (∑ s : Fin 2, ∑ r : Fin 2048, g (ix3 s r 1)) (Ideal.ofBits .f32 0x45800000#32) := by
  unfold meaned1
  pointwise
  simp only [Finset.univ_unique, Finset.sum_singleton]
/-- A head's mean. -/
theorem meaned2_at (g : FVec Ideal S2x2048x3 .f32) (i : S_.Idx) :
    meaned2 g i = Ideal.div (∑ s : Fin 2, ∑ r : Fin 2048, g (ix3 s r 2)) (Ideal.ofBits .f32 0x45800000#32) := by
  unfold meaned2
  pointwise
  simp only [Finset.univ_unique, Finset.sum_singleton]
end At

end Cert.ReferenceIdeal.Hand
-- ==== Proof.ReferenceIdeal.Value.lean ====
module

public import proofs.«01_k».proof.Proof.ReferenceIdeal.Stages

/-! What the reference's four results hold: the model with the pre-activation in the problem's own form. -/

@[expose] public section

set_option maxRecDepth 16384
set_option maxHeartbeats 1000000

noncomputable section

namespace Cert.ReferenceIdeal.Hand

open Cert.ReferenceIdeal Cert.ReferenceIdeal.Gen Cert.ReferenceIdeal.Value Cert.Model
open Idealize.ShloMosaic

/-- The arguments held by a valuation, read at indices. -/
def parV (V : Valuation τ sig (Elt Ideal)) : Par :=
  parOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14))

/-- An array holds the rows `H` of both sequences. -/
def Holds (h : FVec Ideal S2x2048x1024 .f32) (H : Fin 2 → Rows) : Prop := ∀ (s : Fin 2) (r : Fin 2048) (j : Fin 1024), h (ix3 s r j) = H s r.val j

/-- A sum over the wide columns is the three sums over its thirds. -/
theorem sum_thirds (f : Fin 3072 → EReal) :
    ∑ k, f k = (∑ d : Fin 1024, f (colA d)) + (∑ d : Fin 1024, f (colB d)) + (∑ d : Fin 1024, f (colC d)) := by
  have h1 := Fin.sum_univ_add (M := EReal) (a := 1024 + 1024) (b := 1024) f
  have h2 := Fin.sum_univ_add (M := EReal) (a := 1024) (b := 1024) (fun i => f (Fin.castAdd 1024 i))
  exact h1.trans (congrArg (· + _) h2)

variable (V : Valuation τ sig (Elt Ideal)) (h : FVec Ideal S2x2048x1024 .f32) (H : Fin 2 → Rows)

/-- The mix of held rows. -/
def mixV : FVec Ideal S2x2048x1024 .f32 := mixed (padded h) (V (Proc.devRef .tc main_arg3)) (V (Proc.devRef .tc main_arg4))
/-- The phrase projection of held rows. -/
def phrV : FVec Ideal S2x2048x1024 .f32 := phrased h (V (Proc.devRef .tc main_arg5)) (V (Proc.devRef .tc main_arg6))
/-- The pre-activation of held rows. -/
def preV : FVec Ideal S2x2048x1024 .f32 :=
  preact (V (Proc.devRef .tc main_arg10)) (joined h (mixV V h) (phrV V h)) (V (Proc.devRef .tc main_arg9))
/-- The update of held rows. -/
def updV : FVec Ideal S2x2048x1024 .f32 := lin (Host.tanh (preV V h)) (V (Proc.devRef .tc main_arg11)) (V (Proc.devRef .tc main_arg12))
/-- The heads of held rows. -/
def headV : FVec Ideal S2x2048x3 .f32 := heads h (V (Proc.devRef .tc main_arg7)) (V (Proc.devRef .tc main_arg8))
/-- One micro-step of held rows. -/
def stepV : FVec Ideal S2x2048x1024 .f32 := gated h (updV V h) (headV V h)

variable {h H}

/-- The padded rows hold the lagged rows. -/
theorem padded_lag (hh : Holds h H) (s : Fin 2) (r : Fin 2048) (j : Fin 1024) (q : ℕ) (hq : q + r.val < 2052) :
    padded h (ix3 s ⟨q + r.val, hq⟩ j) = lag (H s) r.val q j := by
  rw [padded_at]
  unfold lag
  by_cases h4 : q + r.val < 4
  · rw [dif_pos h4, if_pos (by omega)]
  · rw [dif_neg h4, if_neg (by omega), hh]
    exact congrArg (fun n => H s n j) (by show q + r.val - 4 = r.val + q - 4; omega)

/-- The mix is the model's. -/
theorem mixV_at (hh : Holds h H) : Holds (mixV V h) (fun s => mix (parV V) (H s)) := by
  intro s r j
  unfold mixV
  rw [mixed_at]
  simp only [padded_lag hh]
  rfl

/-- The phrase projection is the model's. -/
theorem phrV_at (hh : Holds h H) : Holds (phrV V h) (fun s => phrase (parV V) (H s)) := by
  intro s r j
  unfold phrV
  rw [phrased_at]
  simp only [hh _ _ _]
  rfl

/-- The pre-activation is the model's. -/
theorem preV_at (hh : Holds h H) : Holds (preV V h) (fun s => preR (parV V) (H s)) := by
  intro s r j
  unfold preV
  rw [preact_at, sum_thirds]
  simp only [joined_at_A, joined_at_B, joined_at_C, hh _ _ _, mixV_at V hh _ _ _, phrV_at V hh _ _ _]
  rfl

/-- The update is the model's. -/
theorem updV_at (hh : Holds h H) : Holds (updV V h) (fun s => upd (parV V) (preR (parV V) (H s))) := by
  intro s r j
  unfold updV
  rw [lin_at]
  have e : ∀ k, Host.tanh (preV V h) (ix3 s r k) = Ideal.tanh (preR (parV V) (H s) r.val k) := fun k =>
    congrArg Ideal.tanh (preV_at V hh s r k)
  simp only [e]
  rfl

/-- The heads are the model's. -/
theorem headV_at (hh : Holds h H) (s : Fin 2) (r : Fin 2048) (q : Fin 3) : headV V h (ix3 s r q) = head (parV V) (H s) q r.val := by
  unfold headV
  rw [heads_at]
  simp only [hh _ _ _]
  rfl

/-- A micro-step is the model's. -/
theorem stepV_at (hh : Holds h H) : Holds (stepV V h) (fun s => step (parV V) (preR (parV V)) (H s)) := by
  intro s r j
  unfold stepV
  rw [gated_at, hh, updV_at V hh, headV_at V hh]
  rfl

/-- The hidden rows as an array, after a number of micro-steps. -/
def hidV : ℕ → FVec Ideal S2x2048x1024 .f32
  | 0 => lin (V (Proc.devRef .tc main_arg0)) (V (Proc.devRef .tc main_arg1)) (V (Proc.devRef .tc main_arg2))
  | n + 1 => stepV V (hidV n)

/-- An argument's rows are the model's. -/
theorem x_at : Holds (V (Proc.devRef .tc main_arg0)) (parV V).x := fun s r j => by
  show _ = dite _ _ _
  rw [dif_pos r.isLt]

/-- The hidden rows are the model's. -/
theorem hidV_at (n : ℕ) : Holds (hidV V n) (fun s => hid (parV V) (preR (parV V)) s n) := by
  induction n with
  | zero =>
    intro s r j
    show lin _ _ _ _ = _
    rw [lin_at]
    simp only [x_at V _ _ _]
    rfl
  | succ n ih => exact stepV_at V ih

/-- Rows plus a projection of others. -/
def resid (x h : FVec Ideal S2x2048x1024 .f32) (w : FVec Ideal S1024x1024 .f32) (b : FVec Ideal S1024 .f32) : FVec Ideal S2x2048x1024 .f32 :=
  addf (addf x (Host.dotGeneral dot_S2x2048x1024_S1024x1024_S2x2048x1024_2_0_01_1_n_n none h (transpose S1024x1024 [1, 0] w transposes_S1024x1024_S1024x1024_1_0))) (broadcastInDim S2x2048x1024 ![0, 1, 2] bcast_S1x1x1024_S2x2048x1024_0_1_2 (broadcastInDim S1x1x1024 ![2] bcast_S1024_S1x1x1024_2 b))

/-- A residual projection at an index. -/
theorem resid_at (x h : FVec Ideal S2x2048x1024 .f32) (w : FVec Ideal S1024x1024 .f32) (b : FVec Ideal S1024 .f32) (s : Fin 2) (r : Fin 2048) (j : Fin 1024) :
    resid x h w b (ix3 s r j) = x (ix3 s r j) + (∑ k : Fin 1024, h (ix3 s r k) * w (ix2 j k)) + b (ix1 j) := by
  unfold resid
  pointwise

/-- The first result: the arguments' rows plus the last hidden rows' projection. -/
def outV : FVec Ideal S2x2048x1024 .f32 :=
  resid (V (Proc.devRef .tc main_arg0)) (hidV V 3) (V (Proc.devRef .tc main_arg13)) (V (Proc.devRef .tc main_arg14))

/-- The first result is the model's. -/
theorem outV_at : Holds (outV V) (out (parV V) (preR (parV V))) := by
  intro s r j
  unfold outV
  rw [resid_at]
  simp only [x_at V _ _ _, hidV_at V 3 _ _ _]
  rfl

/-- The head means are the model's. -/
theorem mean0V_at (i : S_.Idx) : meaned0 (headV V (hidV V 2)) i = meanHead (parV V) (preR (parV V)) 0 := by
  rw [meaned0_at]
  simp only [headV_at V (hidV_at V 2)]
  rfl
/-- The head means are the model's. -/
theorem mean1V_at (i : S_.Idx) : meaned1 (headV V (hidV V 2)) i = meanHead (parV V) (preR (parV V)) 1 := by
  rw [meaned1_at]
  simp only [headV_at V (hidV_at V 2)]
  rfl
/-- The head means are the model's. -/
theorem mean2V_at (i : S_.Idx) : meaned2 (headV V (hidV V 2)) i = meanHead (parV V) (preR (parV V)) 2 := by
  rw [meaned2_at]
  simp only [headV_at V (hidV_at V 2)]
  rfl

/-- The named intermediate arrays are the stages. -/
theorem v4_eq : res_main_v4 V = hidV V 0 := rfl
/-- The first update is a stage. -/
theorem v78_eq : res_main_v78 V = updV V (hidV V 0) := rfl
/-- The hidden rows after the first micro-step. -/
theorem v93_eq : res_main_v93 V = hidV V 1 := rfl
/-- The second update. -/
theorem v156_eq : res_main_v156 V = updV V (hidV V 1) := by
  rw [← v93_eq]; rfl
/-- The hidden rows after the second micro-step. -/
theorem v171_eq : res_main_v171 V = hidV V 2 := by
  show _ = stepV V (hidV V 1)
  unfold res_main_v171 stepV
  rw [v156_eq, v93_eq]; rfl
/-- The third update. -/
theorem v234_eq : res_main_v234 V = updV V (hidV V 2) := by
  rw [← v171_eq]; rfl
/-- The heads entering the last micro-step. -/
theorem v245_eq : res_main_v245 V = headV V (hidV V 2) := by
  rw [← v171_eq]; rfl

end Cert.ReferenceIdeal.Hand
-- ==== Proof.ReferenceIdeal.Results.lean ====
module

public import proofs.«01_k».proof.Proof.ReferenceIdeal.Value

/-! The reference's run, its four results stated by the model. -/

@[expose] public section

set_option maxRecDepth 16384
set_option maxHeartbeats 1000000

noncomputable section

namespace Cert.ReferenceIdeal.Hand

open Cert.ReferenceIdeal Cert.ReferenceIdeal.Gen Cert.ReferenceIdeal.Value Cert.Model
open Idealize.ShloMosaic Idealize.ShloMosaic.StableHlo Idealize.SL.Sem

/-- The first result's term is the model's output. -/
theorem out_term (V : Valuation τ sig (Elt Ideal)) :
    resid (V (Proc.devRef .tc main_arg0)) (gated (res_main_v171 V) (res_main_v234 V) (res_main_v245 V)) (V (Proc.devRef .tc main_arg13)) (V (Proc.devRef .tc main_arg14))
      = fun i => out (parV V) (preR (parV V)) (i 0) (i 1).val (i 2) := by
  rw [v171_eq, v234_eq, v245_eq]
  funext i
  exact (congrArg (outV V) (eq_ix3 i)).trans (outV_at V (i 0) (i 1) (i 2))

/-- The second result's term is the model's first head mean. -/
theorem mean0_term (V : Valuation τ sig (Elt Ideal)) : meaned0 (res_main_v245 V) = fun _ => meanHead (parV V) (preR (parV V)) 0 := by
  rw [v245_eq]
  exact funext fun i => mean0V_at V i
/-- The third result's term is the model's second head mean. -/
theorem mean1_term (V : Valuation τ sig (Elt Ideal)) : meaned1 (res_main_v245 V) = fun _ => meanHead (parV V) (preR (parV V)) 1 := by
  rw [v245_eq]
  exact funext fun i => mean1V_at V i
/-- The fourth result's term is the model's third head mean. -/
theorem mean2_term (V : Valuation τ sig (Elt Ideal)) : meaned2 (res_main_v245 V) = fun _ => meanHead (parV V) (preR (parV V)) 2 := by
  rw [v245_eq]
  exact funext fun i => mean2V_at V i

variable (m : (ℓ : Loc nD τ sig) → Buf (Elt Ideal) ℓ) (ρ : Dev nD → PrngReg)

/-- The reference's arguments, read at indices. -/
def parR (c : Dev nD) : Par :=
  parOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- The launch's valuation holds the arguments. -/
theorem parV_launch (c : Dev nD) : parV (launchContents m c) = parR m c := rfl

/-- The reference runs to its end with the model's results and every argument array as launched. -/
theorem run_value :
    θ_run defs (onTc (τ := τ) (main (F := Ideal))) ⟨m, fun _ => 0, ρ⟩ (fun r => ∀ c : Dev nD,
      r.2.mem ((c.tc : Thread nD τ).loc main_v255) = (fun i => out (parR m c) (preR (parR m c)) (i 0) (i 1).val (i 2) : FVec Ideal S2x2048x1024 .f32)
      ∧ r.2.mem ((c.tc : Thread nD τ).loc main_v258) = (fun _ => meanHead (parR m c) (preR (parR m c)) 0 : FVec Ideal S_ .f32)
      ∧ r.2.mem ((c.tc : Thread nD τ).loc main_v261) = (fun _ => meanHead (parR m c) (preR (parR m c)) 1 : FVec Ideal S_ .f32)
      ∧ r.2.mem ((c.tc : Thread nD τ).loc main_v264) = (fun _ => meanHead (parR m c) (preR (parR m c)) 2 : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (out_term (launchContents m c)), (h c).2.1.trans (mean0_term (launchContents m c)),
    (h c).2.2.1.trans (mean1_term (launchContents m c)), (h c).2.2.2.1.trans (mean2_term (launchContents m c)), (h c).2.2.2.2⟩)
    (Cert.ReferenceIdeal.Value.run m ρ)

end Cert.ReferenceIdeal.Hand
-- ==== Proof.Equation.lean ====
module

public import proofs.«01_k».proof.Defs
public import proofs.«01_k».proof.Proof.Equal
public import proofs.«01_k».proof.Proof.KernelIdeal.Finite
public import proofs.«01_k».proof.Proof.KernelIdeal.Results
public import proofs.«01_k».proof.Proof.ReferenceIdeal.Results

/-! The equation: on finite arguments the kernel and the reference leave the same four results. -/

@[expose] public section

set_option maxRecDepth 16384
set_option maxHeartbeats 1000000

noncomputable section

namespace Cert.Equation

open Cert.Model
open Idealize.ShloMosaic Idealize.SL.Sem

attribute [local instance] Cert.Pre_finite_inputs.Hand.facts

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- The kernel runs to its end with the model's results, in the kernel's form, and every argument array as launched. -/
theorem kernel_value :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11_0) = Cert.KernelIdeal.Hand.outArr m c
      ∧ r.2.mem ((c.tc : Thread Cert.KernelIdeal.nD Cert.KernelIdeal.τ).loc Cert.KernelIdeal.main_v13) = (fun _ => meanHead (Cert.KernelIdeal.Hand.parK m c) (preK (Cert.KernelIdeal.Hand.parK m c)) 0 : FVec Ideal Cert.KernelIdeal.S_ .f32)
      ∧ r.2.mem ((c.tc : Thread Cert.KernelIdeal.nD Cert.KernelIdeal.τ).loc Cert.KernelIdeal.main_v15) = (fun _ => meanHead (Cert.KernelIdeal.Hand.parK m c) (preK (Cert.KernelIdeal.Hand.parK m c)) 1 : FVec Ideal Cert.KernelIdeal.S_ .f32)
      ∧ r.2.mem ((c.tc : Thread Cert.KernelIdeal.nD Cert.KernelIdeal.τ).loc Cert.KernelIdeal.main_v17) = (fun _ => meanHead (Cert.KernelIdeal.Hand.parK m c) (preK (Cert.KernelIdeal.Hand.parK m c)) 2 : FVec Ideal Cert.KernelIdeal.S_ .f32)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono (fun _ h c => ⟨(h.1 c).1.trans (Cert.KernelIdeal.Hand.W5_out m g c), (h.1 c).2.1.trans (Cert.KernelIdeal.Hand.W5_v13 m g c),
    (h.1 c).2.2.1.trans (Cert.KernelIdeal.Hand.W5_v15 m g c), (h.1 c).2.2.2.1.trans (Cert.KernelIdeal.Hand.W5_v17 m g c), (h.1 c).2.2.2.2⟩)
    (Cert.KernelIdeal.Hand.run_sound m g)

/-- Equal arguments read equal at indices. -/
theorem par_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.parR m' c = Cert.KernelIdeal.Hand.parK m c := by
  obtain ⟨h0, h1, h2, h3, h4, h5, h6, h7, h8, h9, h10, h11, h12, h13, h14⟩ := h
  unfold Cert.ReferenceIdeal.Hand.parR Cert.KernelIdeal.Hand.parK
  rw [h0, h1, h2, h3, h4, h5, h6, h7, h8, h9, h10, h11, h12, h13, h14]

/-- Finite arguments read finite at indices. -/
theorem par_fine (h : Cert.Pre_KernelIdeal_finite_inputs m) (c : Dev Cert.KernelIdeal.nD) : Fine (Cert.KernelIdeal.Hand.parK m c) :=
  Cert.Pre_finite_inputs.Hand.fine_of_pre _ _ _ _ _ _ _ _ _ _ _ _ _ _ _ (h c)

/-- The kernel and the reference, started on equal finite arguments, end with equal results. -/
theorem equation : Cert.algebraic_KernelIdeal_ReferenceIdeal_pre_finite_inputs := by
  intro m g m' g' hpre hargs
  refine ⟨fun c => Cert.KernelIdeal.Hand.outArr m c, fun c => (fun _ => meanHead (Cert.KernelIdeal.Hand.parK m c) (preK (Cert.KernelIdeal.Hand.parK m c)) 0 : FVec Ideal Cert.KernelIdeal.S_ .f32),
    fun c => (fun _ => meanHead (Cert.KernelIdeal.Hand.parK m c) (preK (Cert.KernelIdeal.Hand.parK m c)) 1 : FVec Ideal Cert.KernelIdeal.S_ .f32),
    fun c => (fun _ => meanHead (Cert.KernelIdeal.Hand.parK m c) (preK (Cert.KernelIdeal.Hand.parK m c)) 2 : FVec Ideal Cert.KernelIdeal.S_ .f32), kernel_value m g, ?_⟩
  refine (θ_run Cert.ReferenceIdeal.defs _ _).mono (fun _ h c => ?_) (Cert.ReferenceIdeal.Hand.run_value m' g')
  have e := par_eq m m' c (hargs c)
  have hp := par_fine m hpre c
  obtain ⟨k0, k1, k2, k3, k⟩ := h c
  refine ⟨k0.trans ?_, k1.trans ?_, k2.trans ?_, k3.trans ?_, k⟩
  · rw [e]
    exact funext fun i => congrFun (congrFun (out_eq hp (i 0)).symm (i 1).val) (i 2)
  · rw [e]; exact funext fun _ => (mean_eq hp 0).symm
  · rw [e]; exact funext fun _ => (mean_eq hp 1).symm
  · rw [e]; exact funext fun _ => (mean_eq hp 2).symm

end Cert.Equation
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ReferenceIdeal.Run
public import proofs.«01_k».proof.Proof.Kernel.Run
public import proofs.«01_k».proof.Proof.KernelIdeal.Run
public import proofs.«01_k».proof.Proof.Equation
public import Idealize.ShloMosaic.Adequacy
public import Idealize.ShloMosaic.Init

/-! The claims, assembled. -/

@[expose] public section

noncomputable section

namespace Cert.Proof

open Idealize.ShloMosaic Idealize.SL.Sem Cert.Kernel

/-- The launch, its idealized form and the reference run through, each leaving its arguments alone; the kernel is its own
    idealization; on finite arguments it computes what the reference computes. -/
theorem claim : Cert.Claim := ⟨Cert.Kernel.Gen.facts, Cert.KernelIdeal.Gen.facts, Cert.ReferenceIdeal.Gen.facts, Cert.Pre_finite_inputs.Hand.facts, by
  refine ⟨?_, ?_, ?_, ?_, ?_, ?_, ?_⟩
  · exact fun m ρ _ => Cert.Kernel.Hand.run_frame m ρ
  · exact fun m ρ _ => Cert.KernelIdeal.Hand.run_frame m ρ
  · exact fun m ρ _ => Cert.KernelIdeal.Hand.run_frame m ρ
  · exact fun m ρ _ => Cert.ReferenceIdeal.Hand.run_frame m ρ
  · exact fun m ρ _ => Cert.ReferenceIdeal.Hand.run_frame m ρ
  · trivial
  · exact Cert.Equation.equation⟩

end Cert.Proof

end
